-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S1x64x200x200x16 : Shape := ⟨5, ![1, 64, 200, 200, 16]⟩
abbrev S40000x68 : Shape := ⟨2, ![40000, 68]⟩
abbrev S40000x3 : Shape := ⟨2, ![40000, 3]⟩
abbrev S68x64 : Shape := ⟨2, ![68, 64]⟩
abbrev S64 : Shape := ⟨1, ![64]⟩
abbrev S64x64 : Shape := ⟨2, ![64, 64]⟩
abbrev S64x128 : Shape := ⟨2, ![64, 128]⟩
abbrev S_ : Shape := ⟨0, ![]⟩

class Facts : Prop where
  bcast_S_S1x64x200x200x16 : S_.BroadcastsInDim S1x64x200x200x16 (![] : Fin 0 → Fin S1x64x200x200x16.rank)
  reducesTo_S1x64x200x200x16_S_d0_1_2_3_4 : S1x64x200x200x16.ReducesTo [0, 1, 2, 3, 4] S_
  h_S_ : 0 < S_.numel
  bcast_S_S40000x68 : S_.BroadcastsInDim S40000x68 (![] : Fin 0 → Fin S40000x68.rank)
  reducesTo_S40000x68_S_d0_1 : S40000x68.ReducesTo [0, 1] S_
  bcast_S_S68x64 : S_.BroadcastsInDim S68x64 (![] : Fin 0 → Fin S68x64.rank)
  reducesTo_S68x64_S_d0_1 : S68x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S40000x3 : S_.BroadcastsInDim S40000x3 (![] : Fin 0 → Fin S40000x3.rank)
  reducesTo_S40000x3_S_d0_1 : S40000x3.ReducesTo [0, 1] S_

variable [Facts]

def fn_part2 {F : FTy → Type} [FloatOps F] (main_arg2 : IVec S40000x3 32) (main_arg9 : FVec F S64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64 .f32 := Host.absf main_arg9
  let main_cst_14 : FVec F S_ .f32 := constant S_ .f32 0x7F800000#32
  let main_v33 : FVec F S64 .f32 := broadcastInDim S64 ![] bcast_S_S64 main_cst_14
  let main_v34 : IVec S64 1 := cmpf .olt main_v32 main_v33
  let main_c_15 : IVec S_ 1 := constantI S_ 1 1#1
  let main_v35 : IVec S_ 1 := (fun x v => Host.reduce IntOp.andi x v reducesTo_S64_S_d0 h_S_) main_v34 main_c_15
  let main_c_16 : IVec S_ 32 := constantI S_ 32 0#32
  let main_v36 : IVec S40000x3 32 := broadcastInDim S40000x3 ![] bcast_S_S40000x3 main_c_16
  let main_v37 : IVec S40000x3 1 := cmpi .sge main_arg2 main_v36
  let main_c_17 : IVec S_ 32 := constantI S_ 32 16#32
  let main_v38 : IVec S40000x3 32 := broadcastInDim S40000x3 ![] bcast_S_S40000x3 main_c_17
  let main_v39 : IVec S40000x3 1 := cmpi .slt main_arg2 main_v38
  let main_v40 : IVec S40000x3 1 := andi main_v37 main_v39
  let main_c_18 : IVec S_ 1 := constantI S_ 1 1#1
  let main_v41 : IVec S_ 1 := (fun x v => Host.reduce IntOp.andi x v reducesTo_S40000x3_S_d0_1 h_S_) main_v40 main_c_18
  let main_v42 : IVec S_ 1 := andi main_v41 main_v3
  let main_v43 : IVec S_ 1 := andi main_v42 main_v7
  let main_v44 : IVec S_ 1 := andi main_v43 main_v11
  let main_v45 : IVec S_ 1 := andi main_v44 main_v15
  let main_v46 : IVec S_ 1 := andi main_v45 main_v19
  let main_v47 : IVec S_ 1 := andi main_v46 main_v23
  let main_v48 : IVec S_ 1 := andi main_v47 main_v27
  let main_v49 : IVec S_ 1 := andi main_v48 main_v31
  let main_v50 : IVec S_ 1 := andi main_v49 main_v35
  main_v50

def fn_part1 {F : FTy → Type} [FloatOps F] (main_arg2 : IVec S40000x3 32) (main_arg5 : FVec F S64x64 .f32) (main_arg6 : FVec F S64 .f32) (main_arg7 : FVec F S64x128 .f32) (main_arg8 : FVec F S64 .f32) (main_arg9 : FVec F S64 .f32) (main_v3 : IVec S_ 1) (main_v7 : IVec S_ 1) (main_v11 : IVec S_ 1) (main_v15 : IVec S_ 1) : IVec S_ 1 :=
  let main_v16 : FVec F S64x64 .f32 := Host.absf main_arg5
  let main_cst_6 : FVec F S_ .f32 := constant S_ .f32 0x7F800000#32
  let main_v17 : FVec F S64x64 .f32 := broadcastInDim S64x64 ![] bcast_S_S64x64 main_cst_6
  let main_v18 : IVec S64x64 1 := cmpf .olt main_v16 main_v17
  let main_c_7 : IVec S_ 1 := constantI S_ 1 1#1
  let main_v19 : IVec S_ 1 := (fun x v => Host.reduce IntOp.andi x v reducesTo_S64x64_S_d0_1 h_S_) main_v18 main_c_7
  let main_v20 : FVec F S64 .f32 := Host.absf main_arg6
  let main_cst_8 : FVec F S_ .f32 := constant S_ .f32 0x7F800000#32
  let main_v21 : FVec F S64 .f32 := broadcastInDim S64 ![] bcast_S_S64 main_cst_8
  let main_v22 : IVec S64 1 := cmpf .olt main_v20 main_v21
  let main_c_9 : IVec S_ 1 := constantI S_ 1 1#1
  let main_v23 : IVec S_ 1 := (fun x v => Host.reduce IntOp.andi x v reducesTo_S64_S_d0 h_S_) main_v22 main_c_9
  let main_v24 : FVec F S64x128 .f32 := Host.absf main_arg7
  let main_cst_10 : FVec F S_ .f32 := constant S_ .f32 0x7F800000#32
  let main_v25 : FVec F S64x128 .f32 := broadcastInDim S64x128 ![] bcast_S_S64x128 main_cst_10
  let main_v26 : IVec S64x128 1 := cmpf .olt main_v24 main_v25
  let main_c_11 : IVec S_ 1 := constantI S_ 1 1#1
  let main_v27 : IVec S_ 1 := (fun x v => Host.reduce IntOp.andi x v reducesTo_S64x128_S_d0_1 h_S_) main_v26 main_c_11
  let main_v28 : FVec F S64 .f32 := Host.absf main_arg8
  let main_cst_12 : FVec F S_ .f32 := constant S_ .f32 0x7F800000#32
  let main_v29 : FVec F S64 .f32 := broadcastInDim S64 ![] bcast_S_S64 main_cst_12
  let main_v30 : IVec S64 1 := cmpf .olt main_v28 main_v29
  let main_c_13 : IVec S_ 1 := constantI S_ 1 1#1
  let main_v31 : IVec S_ 1 := (fun x v => Host.reduce IntOp.andi x v reducesTo_S64_S_d0 h_S_) main_v30 main_c_13
  fn_part2 (F := F) main_arg2 main_arg9 main_v3 main_v7 main_v11 main_v15 main_v19 main_v23 main_v27 main_v31

def fn {F : FTy → Type} [FloatOps F] (main_arg0 : FVec F S1x64x200x200x16 .f32) (main_arg1 : FVec F S40000x68 .f32) (main_arg2 : IVec S40000x3 32) (main_arg3 : FVec F S68x64 .f32) (main_arg4 : FVec F S64 .f32) (main_arg5 : FVec F S64x64 .f32) (main_arg6 : FVec F S64 .f32) (main_arg7 : FVec F S64x128 .f32) (main_arg8 : FVec F S64 .f32) (main_arg9 : FVec F S64 .f32) (main_arg10 : FVec F S64 .f32) : IVec S_ 1 :=
  let main_v0 : FVec F S1x64x200x200x16 .f32 := Host.absf main_arg0
  let main_cst : FVec F S_ .f32 := constant S_ .f32 0x7F800000#32
  let main_v1 : FVec F S1x64x200x200x16 .f32 := broadcastInDim S1x64x200x200x16 ![] bcast_S_S1x64x200x200x16 main_cst
  let main_v2 : IVec S1x64x200x200x16 1 := cmpf .olt main_v0 main_v1
  let main_c : IVec S_ 1 := constantI S_ 1 1#1
  let main_v3 : IVec S_ 1 := (fun x v => Host.reduce IntOp.andi x v reducesTo_S1x64x200x200x16_S_d0_1_2_3_4 h_S_) main_v2 main_c
  let main_v4 : FVec F S40000x68 .f32 := Host.absf main_arg1
  let main_cst_0 : FVec F S_ .f32 := constant S_ .f32 0x7F800000#32
  let main_v5 : FVec F S40000x68 .f32 := broadcastInDim S40000x68 ![] bcast_S_S40000x68 main_cst_0
  let main_v6 : IVec S40000x68 1 := cmpf .olt main_v4 main_v5
  let main_c_1 : IVec S_ 1 := constantI S_ 1 1#1
  let main_v7 : IVec S_ 1 := (fun x v => Host.reduce IntOp.andi x v reducesTo_S40000x68_S_d0_1 h_S_) main_v6 main_c_1
  let main_v8 : FVec F S68x64 .f32 := Host.absf main_arg3
  let main_cst_2 : FVec F S_ .f32 := constant S_ .f32 0x7F800000#32
  let main_v9 : FVec F S68x64 .f32 := broadcastInDim S68x64 ![] bcast_S_S68x64 main_cst_2
  let main_v10 : IVec S68x64 1 := cmpf .olt main_v8 main_v9
  let main_c_3 : IVec S_ 1 := constantI S_ 1 1#1
  let main_v11 : IVec S_ 1 := (fun x v => Host.reduce IntOp.andi x v reducesTo_S68x64_S_d0_1 h_S_) main_v10 main_c_3
  let main_v12 : FVec F S64 .f32 := Host.absf main_arg4
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg2 main_arg5 main_arg6 main_arg7 main_arg8 main_arg9 main_v3 main_v7 main_v11 main_v15
-- ==== Kernel.lean ====
abbrev S1x64x200x200x16 : Shape := ⟨5, ![1, 64, 200, 200, 16]⟩
abbrev S40000x68 : Shape := ⟨2, ![40000, 68]⟩
abbrev S40000x3 : Shape := ⟨2, ![40000, 3]⟩
abbrev S68x64 : Shape := ⟨2, ![68, 64]⟩
abbrev S64 : Shape := ⟨1, ![64]⟩
abbrev S64x64 : Shape := ⟨2, ![64, 64]⟩
abbrev S64x128 : Shape := ⟨2, ![64, 128]⟩
abbrev S1x64 : Shape := ⟨2, ![1, 64]⟩
abbrev S40000x64 : Shape := ⟨2, ![40000, 64]⟩
abbrev S1000x68 : Shape := ⟨2, ![1000, 68]⟩
abbrev S1000x64 : Shape := ⟨2, ![1000, 64]⟩
abbrev S40000x1 : Shape := ⟨2, ![40000, 1]⟩
abbrev S40000 : Shape := ⟨1, ![40000]⟩
abbrev S_ : Shape := ⟨0, ![]⟩
abbrev S40x1x1000 : Shape := ⟨3, ![40, 1, 1000]⟩
abbrev S32x128 : Shape := ⟨2, ![32, 128]⟩
abbrev S1x1x1000 : Shape := ⟨3, ![1, 1, 1000]⟩
abbrev S1x1x1 : Shape := ⟨3, ![1, 1, 1]⟩
abbrev S4096 : Shape := ⟨1, ![4096]⟩
abbrev S4096x1 : Shape := ⟨2, ![4096, 1]⟩
abbrev S4096x64 : Shape := ⟨2, ![4096, 64]⟩
abbrev S64x200x200x16 : Shape := ⟨4, ![64, 200, 200, 16]⟩
abbrev S64x640000 : Shape := ⟨2, ![64, 640000]⟩
abbrev S64x1 : Shape := ⟨2, ![64, 1]⟩
abbrev S64x4096 : Shape := ⟨2, ![64, 4096]⟩
abbrev S64x16x16x16 : Shape := ⟨4, ![64, 16, 16, 16]⟩
abbrev S64x12800 : Shape := ⟨2, ![64, 12800]⟩
abbrev S64x16x256 : Shape := ⟨3, ![64, 16, 256]⟩
abbrev S16x64x256 : Shape := ⟨3, ![16, 64, 256]⟩
abbrev S64x3200 : Shape := ⟨2, ![64, 3200]⟩
abbrev S1x64x256 : Shape := ⟨3, ![1, 64, 256]⟩
abbrev S64x256 : Shape := ⟨2, ![64, 256]⟩

abbrev nBuf : Space → Nat
  | .hbm => 119
  | .vmem => 29
  | .smem => 2
  | _ => 0

abbrev bufTy : (tb : Table) → Fin (tcTables nBuf tb) → BufTy
  | .hbm, ⟨0, _⟩ => ⟨S1x64x200x200x16, .f32⟩
  | .hbm, ⟨1, _⟩ => ⟨S40000x68, .f32⟩
  | .hbm, ⟨2, _⟩ => ⟨S40000x3, .i32⟩
  | .hbm, ⟨3, _⟩ => ⟨S68x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S1x64, .f32⟩
  | .hbm, ⟨14, _⟩ => ⟨S1x64, .f32⟩
  | .hbm, ⟨15, _⟩ => ⟨S40000x64, .f32⟩
  | .hbm, ⟨16, _⟩ => ⟨S40000x1, .i32⟩
  | .hbm, ⟨17, _⟩ => ⟨S40000, .i32⟩
  | .hbm, ⟨18, _⟩ => ⟨S_, .i32⟩
  | .hbm, ⟨19, _⟩ => ⟨S40000, .i32⟩
  | .hbm, ⟨20, _⟩ => ⟨S40000, .i32⟩
  | .hbm, ⟨21, _⟩ => ⟨S40000x1, .i32⟩
  | .hbm, ⟨22, _⟩ => ⟨S40000, .i32⟩
  | .hbm, ⟨23, _⟩ => ⟨S_, .i32⟩
  | .hbm, ⟨24, _⟩ => ⟨S40000, .i32⟩
  | .hbm, ⟨25, _⟩ => ⟨S40000, .i32⟩
  | .hbm, ⟨26, _⟩ => ⟨S40000, .i32⟩
  | .hbm, ⟨27, _⟩ => ⟨S40000x1, .i32⟩
  | .hbm, ⟨28, _⟩ => ⟨S40000, .i32⟩
  | .hbm, ⟨29, _⟩ => ⟨S40000, .i32⟩
  | .hbm, ⟨30, _⟩ => ⟨S40x1x1000, .i32⟩
  | .hbm, ⟨31, _⟩ => ⟨S32x128, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096x1, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x64, .f32⟩
  | .hbm, ⟨49, _⟩ => ⟨S_, .f32⟩
  | .hbm, ⟨50, _⟩ => ⟨S_, .f32⟩
  | .hbm, ⟨51, _⟩ => ⟨S4096x64, .i1⟩
  | .hbm, ⟨52, _⟩ => ⟨S4096x64, .f32⟩
  | .hbm, ⟨53, _⟩ => ⟨S4096x64, .f32⟩
  | .hbm, ⟨54, _⟩ => ⟨S64x200x200x16, .f32⟩
  | .hbm, ⟨55, _⟩ => ⟨S64x640000, .f32⟩
  | .hbm, ⟨56, _⟩ => ⟨S64x1, .f32⟩
  | .hbm, ⟨57, _⟩ => ⟨S64x4096, .f32⟩
  | .hbm, ⟨58, _⟩ => ⟨S64x1, .f32⟩
  | .hbm, ⟨59, _⟩ => ⟨S64x1, .f32⟩
  | .hbm, ⟨60, _⟩ => ⟨S64x64, .f32⟩
  | .hbm, ⟨61, _⟩ => ⟨S64x1, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64x64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S64, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S64, .f32⟩
  | .hbm, ⟨97, _⟩ => ⟨S64x1, .f32⟩
  | .hbm, ⟨98, _⟩ => ⟨S64x64, .f32⟩
  | .hbm, ⟨99, _⟩ => ⟨S64x64, .f32⟩
  | .hbm, ⟨100, _⟩ => ⟨S64x64, .i32⟩
  | .hbm, ⟨101, _⟩ => ⟨S64x64, .i32⟩
  | .hbm, ⟨102, _⟩ => ⟨S_, .i32⟩
  | .hbm, ⟨103, _⟩ => ⟨S64x64, .i32⟩
  | .hbm, ⟨104, _⟩ => ⟨S64x64, .i32⟩
  | .hbm, ⟨105, _⟩ => ⟨S64x64, .i1⟩
  | .hbm, ⟨106, _⟩ => ⟨S64x64, .f32⟩
  | .hbm, ⟨107, _⟩ => ⟨S64x64, .f32⟩
  | .hbm, ⟨108, _⟩ => ⟨S64, .f32⟩
  | .hbm, ⟨109, _⟩ => ⟨S64, .f32⟩
  | .hbm, ⟨110, _⟩ => ⟨S64, .f32⟩
  | .hbm, ⟨111, _⟩ => ⟨S64x1, .f32⟩
  | .hbm, ⟨112, _⟩ => ⟨S64x4096, .f32⟩
  | .hbm, ⟨113, _⟩ => ⟨S64x4096, .f32⟩
  | .hbm, ⟨114, _⟩ => ⟨S64x16x256, .f32⟩
  | .hbm, ⟨115, _⟩ => ⟨S16x64x256, .f32⟩
  | .hbm, ⟨116, _⟩ => ⟨S64x1, .f32⟩
  | .hbm, ⟨117, _⟩ => ⟨S64x640000, .f32⟩
  | .hbm, ⟨118, _⟩ => ⟨S1x64x200x200x16, .f32⟩
  | .local _ .vmem, ⟨0, _⟩ => ⟨S1000x68, .f32⟩
  | .local _ .vmem, ⟨1, _⟩ => ⟨S1000x68, .f32⟩
  | .local _ .vmem, ⟨2, _⟩ => ⟨S68x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1000x64, .f32⟩
  | .local _ .vmem, ⟨7, _⟩ => ⟨S1000x64, .f32⟩
  | .local _ .vmem, ⟨8, _⟩ => ⟨S32x128, .i32⟩
  | .local _ .vmem, ⟨9, _⟩ => ⟨S64x16x16x16, .f32⟩
  | .local _ .vmem, ⟨10, _⟩ => ⟨S4096x64, .f32⟩
  | .local _ .vmem, ⟨11, _⟩ => ⟨S64x64, .f32⟩
  | .local _ .vmem, ⟨12, _⟩ => ⟨S64x64, .f32⟩
  | .local _ .vmem, ⟨13, _⟩ => ⟨S64x1, .f32⟩
  | .local _ .vmem, ⟨14, _⟩ => ⟨S64x4096, .f32⟩
  | .local _ .vmem, ⟨15, _⟩ => ⟨S64x1, .f32⟩
  | .local _ .vmem, ⟨16, _⟩ => ⟨S64x1, .f32⟩
  | .local _ .vmem, ⟨17, _⟩ => ⟨S64x12800, .f32⟩
  | .local _ .vmem, ⟨18, _⟩ => ⟨S64x12800, .f32⟩
  | .local _ .vmem, ⟨19, _⟩ => ⟨S64x64, .f32⟩
  | .local _ .vmem, ⟨20, _⟩ => ⟨S64x1, .f32⟩
  | .local _ .vmem, ⟨21, _⟩ => ⟨S64x3200, .f32⟩
  | .local _ .vmem, ⟨22, _⟩ => ⟨S64x3200, .f32⟩
  | .local _ .vmem, ⟨23, _⟩ => ⟨S64x64, .f32⟩
  | .local _ .vmem, ⟨24, _⟩ => ⟨S64x1, .f32⟩
  | .local _ .vmem, ⟨25, _⟩ => ⟨S1x64x256, .f32⟩
  | .local _ .vmem, ⟨26, _⟩ => ⟨S1x64x256, .f32⟩
  | .local _ .vmem, ⟨27, _⟩ => ⟨S64x3200, .f32⟩
  | .local _ .vmem, ⟨28, _⟩ => ⟨S64x3200, .f32⟩
  | .local _ .smem, ⟨0, _⟩ => ⟨S1x1x1000, .i32⟩
  | .local _ .smem, ⟨1, _⟩ => ⟨S1x1x1000, .i32⟩
  | _, _ => ⟨S1x64x200x200x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev main_v36_2 : Ref sig .tc := ⟨.hbm, 59, rfl⟩
abbrev main_v37_0 : Ref sig .tc := ⟨.hbm, 60, rfl⟩
abbrev main_v37_1 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_11 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc4_stg4_0 : Ref sig .tc := ⟨.vmem, 27, rfl⟩
abbrev cc4_stg4_1 : Ref sig .tc := ⟨.vmem, 28, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc3_sem0_0 : DmaSem sig := 19
abbrev cc3_sem0_1 : DmaSem sig := 20
abbrev cc3_sem1_0 : DmaSem sig := 21
abbrev cc3_sem2_0 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc4_sem4_0 : DmaSem sig := 29
abbrev cc4_sem4_1 : DmaSem sig := 30

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x68 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S68x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

@[reducible] def k1_t1_loop : Scf.Loop 32 :=
  let c0_i32_1 : BitVec 32 := 0#32
  let c1000_i32 : BitVec 32 := 1000#32
  let v8 : BitVec 32 := Scalar.addi c0_i32_1 c1000_i32
  let c1_i32 : BitVec 32 := 1#32
  ⟨c0_i32_1, v8, c1_i32⟩
def k1_off1 (k1_t1 : Fin k1_t1_loop.trips) : Fin 3 → Nat :=
  let c0 : Index := 0#32
  let c0_3 : Index := 0#32
  let c0_i32_1 : BitVec 32 := 0#32
  let c1_i32 : BitVec 32 := 1#32
  let arg3 : BitVec 32 := Scf.iv c0_i32_1 c1_i32 k1_t1
  let v9 : Index := Scalar.indexCast arg3
  ![0, 0, v9.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .smem S1x1x1000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![1], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x16x16x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S64x12800 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S64x3200 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x64x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S64x3200 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== ReferenceIdeal.lean ====
abbrev S1x64x200x200x16 : Shape := ⟨5, ![1, 64, 200, 200, 16]⟩
abbrev S40000x68 : Shape := ⟨2, ![40000, 68]⟩
abbrev S40000x3 : Shape := ⟨2, ![40000, 3]⟩
abbrev S68x64 : Shape := ⟨2, ![68, 64]⟩
abbrev S64 : Shape := ⟨1, ![64]⟩
abbrev S64x64 : Shape := ⟨2, ![64, 64]⟩
abbrev S64x128 : Shape := ⟨2, ![64, 128]⟩
abbrev S40000x64 : Shape := ⟨2, ![40000, 64]⟩
abbrev S1x64 : Shape := ⟨2, ![1, 64]⟩
abbrev S_ : Shape := ⟨0, ![]⟩
abbrev S200x200x16x64 : Shape := ⟨4, ![200, 200, 16, 64]⟩
abbrev S40000x1 : Shape := ⟨2, ![40000, 1]⟩
abbrev S40000 : Shape := ⟨1, ![40000]⟩
abbrev S1x200x200x16x64 : Shape := ⟨5, ![1, 200, 200, 16, 64]⟩
abbrev S1x128x200x200x16 : Shape := ⟨5, ![1, 128, 200, 200, 16]⟩
abbrev S64x1x200x200x16 : Shape := ⟨5, ![64, 1, 200, 200, 16]⟩
abbrev S1x64x1x1x1 : Shape := ⟨5, ![1, 64, 1, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S1x64x200x200x16, .f32⟩
  | .hbm, ⟨1, _⟩ => ⟨S40000x68, .f32⟩
  | .hbm, ⟨2, _⟩ => ⟨S40000x3, .i32⟩
  | .hbm, ⟨3, _⟩ => ⟨S68x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S40000x64, .f32⟩
  | .hbm, ⟨12, _⟩ => ⟨S1x64, .f32⟩
  | .hbm, ⟨13, _⟩ => ⟨S40000x64, .f32⟩
  | .hbm, ⟨14, _⟩ => ⟨S40000x64, .f32⟩
  | .hbm, ⟨15, _⟩ => ⟨S_, .f32⟩
  | .hbm, ⟨16, _⟩ => ⟨S40000x64, .f32⟩
  | .hbm, ⟨17, _⟩ => ⟨S40000x64, .f32⟩
  | .hbm, ⟨18, _⟩ => ⟨S40000x64, .f32⟩
  | .hbm, ⟨19, _⟩ => ⟨S1x64, .f32⟩
  | .hbm, ⟨20, _⟩ => ⟨S40000x64, .f32⟩
  | .hbm, ⟨21, _⟩ => ⟨S40000x64, .f32⟩
  | .hbm, ⟨22, _⟩ => ⟨S_, .f32⟩
  | .hbm, ⟨23, _⟩ => ⟨S40000x64, .f32⟩
  | .hbm, ⟨24, _⟩ => ⟨S40000x64, .f32⟩
  | .hbm, ⟨25, _⟩ => ⟨S_, .f32⟩
  | .hbm, ⟨26, _⟩ => ⟨S200x200x16x64, .f32⟩
  | .hbm, ⟨27, _⟩ => ⟨S40000x1, .i32⟩
  | .hbm, ⟨28, _⟩ => ⟨S40000, .i32⟩
  | .hbm, ⟨29, _⟩ => ⟨S40000x1, .i32⟩
  | .hbm, ⟨30, _⟩ => ⟨S40000, .i32⟩
  | .hbm, ⟨31, _⟩ => ⟨S40000x1, .i32⟩
  | .hbm, ⟨32, _⟩ => ⟨S40000, .i32⟩
  | .hbm, ⟨33, _⟩ => ⟨S_, .i32⟩
  | .hbm, ⟨34, _⟩ => ⟨S40000, .i32⟩
  | .hbm, ⟨35, _⟩ => ⟨S40000, .i1⟩
  | .hbm, ⟨36, _⟩ => ⟨S_, .i32⟩
  | .hbm, ⟨37, _⟩ => ⟨S40000, .i32⟩
  | .hbm, ⟨38, _⟩ => ⟨S40000, .i32⟩
  | .hbm, ⟨39, _⟩ => ⟨S40000, .i32⟩
  | .hbm, ⟨40, _⟩ => ⟨S_, .i32⟩
  | .hbm, ⟨41, _⟩ => ⟨S40000, .i32⟩
  | .hbm, ⟨42, _⟩ => ⟨S40000, .i1⟩
  | .hbm, ⟨43, _⟩ => ⟨S_, .i32⟩
  | .hbm, ⟨44, _⟩ => ⟨S40000, .i32⟩
  | .hbm, ⟨45, _⟩ => ⟨S40000, .i32⟩
  | .hbm, ⟨46, _⟩ => ⟨S40000, .i32⟩
  | .hbm, ⟨47, _⟩ => ⟨S_, .i32⟩
  | .hbm, ⟨48, _⟩ => ⟨S40000, .i32⟩
  | .hbm, ⟨49, _⟩ => ⟨S40000, .i1⟩
  | .hbm, ⟨50, _⟩ => ⟨S_, .i32⟩
  | .hbm, ⟨51, _⟩ => ⟨S40000, .i32⟩
  | .hbm, ⟨52, _⟩ => ⟨S40000, .i32⟩
  | .hbm, ⟨53, _⟩ => ⟨S40000, .i32⟩
  | .hbm, ⟨54, _⟩ => ⟨S40000x1, .i32⟩
  | .hbm, ⟨55, _⟩ => ⟨S40000x1, .i32⟩
  | .hbm, ⟨56, _⟩ => ⟨S40000x1, .i32⟩
  | .hbm, ⟨57, _⟩ => ⟨S40000x3, .i32⟩
  | .hbm, ⟨58, _⟩ => ⟨S200x200x16x64, .f32⟩
  | .hbm, ⟨59, _⟩ => ⟨S1x200x200x16x64, .f32⟩
  | .hbm, ⟨60, _⟩ => ⟨S1x64x200x200x16, .f32⟩
  | .hbm, ⟨61, _⟩ => ⟨S1x128x200x200x16, .f32⟩
  | .hbm, ⟨62, _⟩ => ⟨S64x1x200x200x16, .f32⟩
  | .hbm, ⟨63, _⟩ => ⟨S1x64x200x200x16, .f32⟩
  | .hbm, ⟨64, _⟩ => ⟨S1x64x1x1x1, .f32⟩
  | .hbm, ⟨65, _⟩ => ⟨S1x64x200x200x16, .f32⟩
  | .hbm, ⟨66, _⟩ => ⟨S1x64x200x200x16, .f32⟩
  | .hbm, ⟨67, _⟩ => ⟨S_, .f32⟩
  | .hbm, ⟨68, _⟩ => ⟨S64, .f32⟩
  | .hbm, ⟨69, _⟩ => ⟨S1x64x1x1x1, .f32⟩
  | .hbm, ⟨70, _⟩ => ⟨S_, .f32⟩
  | .hbm, ⟨71, _⟩ => ⟨S1x64x1x1x1, .f32⟩
  | .hbm, ⟨72, _⟩ => ⟨S1x64x1x1x1, .f32⟩
  | .hbm, ⟨73, _⟩ => ⟨S_, .i32⟩
  | .hbm, ⟨74, _⟩ => ⟨S_, .f32⟩
  | .hbm, ⟨75, _⟩ => ⟨S64, .f32⟩
  | .hbm, ⟨76, _⟩ => ⟨S1x64x1x1x1, .f32⟩
  | .hbm, ⟨77, _⟩ => ⟨S_, .f32⟩
  | .hbm, ⟨78, _⟩ => ⟨S1x64x1x1x1, .f32⟩
  | .hbm, ⟨79, _⟩ => ⟨S1x64x1x1x1, .f32⟩
  | .hbm, ⟨80, _⟩ => ⟨S1x64x200x200x16, .f32⟩
  | .hbm, ⟨81, _⟩ => ⟨S1x64x200x200x16, .f32⟩
  | .hbm, ⟨82, _⟩ => ⟨S1x64x200x200x16, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S64, .f32⟩
  | .hbm, ⟨88, _⟩ => ⟨S1x64x1x1x1, .f32⟩
  | .hbm, ⟨89, _⟩ => ⟨S1x64x1x1x1, .f32⟩
  | .hbm, ⟨90, _⟩ => ⟨S1x64x1x1x1, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S1x64x1x1x1, .f32⟩
  | .hbm, ⟨96, _⟩ => ⟨S1x64x1x1x1, .f32⟩
  | .hbm, ⟨97, _⟩ => ⟨S1x64x200x200x16, .f32⟩
  | .hbm, ⟨98, _⟩ => ⟨S1x64x200x200x16, .f32⟩
  | .hbm, ⟨99, _⟩ => ⟨S_, .f32⟩
  | .hbm, ⟨100, _⟩ => ⟨S1x64x1x1x1, .f32⟩
  | .hbm, ⟨101, _⟩ => ⟨S1x64x1x1x1, .f32⟩
  | .hbm, ⟨102, _⟩ => ⟨S1x64x1x1x1, .f32⟩
  | .hbm, ⟨103, _⟩ => ⟨S1x64x200x200x16, .f32⟩
  | .hbm, ⟨104, _⟩ => ⟨S1x64x200x200x16, .f32⟩
  | .hbm, ⟨105, _⟩ => ⟨S1x64x1x1x1, .f32⟩
  | .hbm, ⟨106, _⟩ => ⟨S1x64x200x200x16, .f32⟩
  | .hbm, ⟨107, _⟩ => ⟨S1x64x200x200x16, .f32⟩
  | .hbm, ⟨108, _⟩ => ⟨S1x64x1x1x1, .f32⟩
  | .hbm, ⟨109, _⟩ => ⟨S1x64x200x200x16, .f32⟩
  | .hbm, ⟨110, _⟩ => ⟨S1x64x200x200x16, .f32⟩
  | .hbm, ⟨111, _⟩ => ⟨S1x64x200x200x16, .f32⟩
  | .hbm, ⟨112, _⟩ => ⟨S_, .f32⟩
  | .hbm, ⟨113, _⟩ => ⟨S1x64x200x200x16, .f32⟩
  | .hbm, ⟨114, _⟩ => ⟨S1x64x200x200x16, .f32⟩
  | _, _ => ⟨S1x64x200x200x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_1 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_call3_cst : Ref sig .tc := ⟨.hbm, 74, rfl⟩
abbrev main_call3_v0 : Ref sig .tc := ⟨.hbm, 75, rfl⟩
abbrev main_call3_v1 : Ref sig .tc := ⟨.hbm, 76, rfl⟩
abbrev main_call3_cst_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_cst_1 : Ref sig .tc := ⟨.hbm, 84, rfl⟩
abbrev main_call3_v8 : Ref sig .tc := ⟨.hbm, 85, rfl⟩
abbrev main_call3_cst_2 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_cst_3 : Ref sig .tc := ⟨.hbm, 91, rfl⟩
abbrev main_call3_v13 : Ref sig .tc := ⟨.hbm, 92, rfl⟩
abbrev main_call3_cst_4 : Ref sig .tc := ⟨.hbm, 93, rfl⟩
abbrev main_call3_call0_v0 : Ref sig .tc := ⟨.hbm, 94, rfl⟩
abbrev main_call3_call0_v1 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_8 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call4_cst : Ref sig .tc := ⟨.hbm, 112, rfl⟩
abbrev main_call4_v0 : Ref sig .tc := ⟨.hbm, 113, rfl⟩
abbrev main_v65 : Ref sig .tc := ⟨.hbm, 114, rfl⟩

abbrev nD : Nat := 1
abbrev τ : Topo := Topo.v7x

variable {F : FTy → Type} [FloatOps F]
-- ==== Proof.Region0.lean ====
/- Region 0 of the program, the dense layers: each window's block at a point, what the body leaves in its output buffers, the body's triple and
   the pipeline's proof data, at any contents `V` of the core's buffers on entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1000x68 := Rect.unit (s := S1000x68) ![0, 0] S1000x68.size inb_S1000x68_S1000x68_0_0
abbrev r0_1 : Rect S68x64 := Rect.unit (s := S68x64) ![0, 0] S68x64.size inb_S68x64_S68x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S1000x64 := Rect.unit (s := S1000x64) ![0, 0] S1000x64.size inb_S1000x64_S1000x64_0_0

/-! ## What the body leaves in each output window's buffer -/

def out0_5 (x0 : Vec F S1000x68 .f32) (x1 : Vec F S68x64 .f32) (x2 : Vec F S1x64 .f32) (x3 : Vec F S64x64 .f32) (x4 : Vec F S1x64 .f32) : Vec F S1000x64 .f32 :=
  View.canon [⟨r0_4, k0_pay1 (View.ld x0 r0_0) (View.ld x1 r0_1) (View.ld x2 r0_2) (View.ld x3 r0_3) (View.ld x4 r0_2)⟩]

theorem cover0_5 (p0 : Vec F S1000x64 .f32) (y : S1000x64.Idx) :
    ∃ pc ∈ ([⟨r0_4, p0⟩] : List (View.Piece (Elt F) S1000x64 .f32)), y ∈ pc.1.set :=
  View.cover_of_tiled [⟨r0_4, p0⟩] S1000x64.size (by rfl) y

/-! ## The body's triple -/

set_option maxHeartbeats 1000000 in
theorem sound_kernel0 (c : Dev nD) (E : Set ℕ) (i : grid0.Coords) (arg1 : Memref sig .tc .vmem S1000x68 .f32) (harg1 : arg1.IsWhole) (arg2 : Memref sig .tc .vmem S68x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S1000x64 .f32) (harg6 : arg6.IsWhole)
    (x0 : Vec F S1000x68 .f32) (x1 : Vec F S68x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_body i arg1 harg1 arg2 harg2 arg3 harg3 arg4 harg4 arg5 harg5 arg6 harg6) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.Region1.lean ====
/- Region 1 of the program, the last-writer search: each window's block at a point, what the body leaves in its output buffers, the body's triple and
   the pipeline's proof data, at any contents `V` of the core's buffers on entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 40 = 0 :=
  (fun t => by
    have ht : t.val < 40 := Nat.lt_of_lt_of_eq t.isLt N_1
    have e0 : (grid1.coords t 0).val = t.val / 1 % 40 := Pipeline.Grid.coords_val t 0 (by decide) rfl
    simp only [cond1_0, e0]
    word_cmp
   : ∀ t : Fin grid1.N, cond1_0 (grid1.coords t) ↔ t.val % 40 = 0)

/-! ## The kernel body on any staging memrefs: a subtype the run finds -/

abbrev VO1_1 : View sig .tc .vmem S32x128 .i32 := (Memref.whole cc1_stg1_0 : Memref sig .tc .vmem S32x128 .i32).view
abbrev ms1_0 (t : Fin cfg1.N) : Memref sig .tc .smem S1x1x1000 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .i32 := win1_1.stage (cfg1.slots t 1)
abbrev hs1_1 (t : Fin cfg1.N) : (ms1_1 t).IsWhole := hstage1_1 ((cfg1.slots t 1).cast nbuf1_1)

set_option maxHeartbeats 1000000 in
noncomputable def kernelRun1_A (c : Dev nD) (i : grid1.Coords) (arg1 : Memref sig .tc .smem S1x1x1000 .i32) (harg1 : arg1.IsWhole) (arg2 : Memref sig .tc .vmem S32x128 .i32) (harg2 : arg2.IsWhole) (hc0 : cond1_0 i)
    (x0 : Vec F S1x1x1000 .i32) :
    { L1 : List (View.Piece (Elt F) S32x128 .i32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc1__winner_body i arg1 harg1 arg2 harg2) K } := by
  refine ⟨?_, fun E K => ?run⟩
  case run =>
    simp only [cc1__winner_body_eq_skeleton]; unfold cc1__winner_body_skel
    unfold owns
    iintro ⟨⟨%f0, %hf0, H0⟩, ⟨%d1, %f1, -, H1⟩, Hk⟩
    obtain rfl := harg1.eq_unread hf0
    sl_exec (disch := first | sl_exact hc0)
    sl_step
    iapply Hk
    isplitl [H0]
    · iexists _; isplitr; · ipureintro; exact harg1.read_unread _
      iexact H0
    iexists _; iexact H1

theorem cover1_A_1 (c : Dev nD) (i : grid1.Coords) (arg1 : Memref sig .tc .smem S1x1x1000 .i32) (harg1 : arg1.IsWhole) (arg2 : Memref sig .tc .vmem S32x128 .i32) (harg2 : arg2.IsWhole) (hc0 : cond1_0 i)
    (x0 : Vec F S1x1x1000 .i32) (y : S32x128.Idx) :
    ∃ pc ∈ (kernelRun1_A c i arg1 harg1 arg2 harg2 hc0 x0).1, y ∈ pc.1.set :=
  View.cover_of_tiledL (kernelRun1_A c i arg1 harg1 arg2 harg2 hc0 x0).1 S32x128.size (by sl_kernel_rfl) y

def out1_A_1 (c : Dev nD) (i : grid1.Coords) (arg1 : Memref sig .tc .smem S1x1x1000 .i32) (harg1 : arg1.IsWhole) (arg2 : Memref sig .tc .vmem S32x128 .i32) (harg2 : arg2.IsWhole) (hc0 : cond1_0 i)
    (x0 : Vec F S1x1x1000 .i32) : Vec F S32x128 .i32 :=
  VO1_1.read (Elt F) (VO1_1.writes (Elt F) VO1_1.junk (kernelRun1_A c i arg1 harg1 arg2 harg2 hc0 x0).1)

set_option maxHeartbeats 1000000 in
noncomputable def kernelRun1_B (c : Dev nD) (i : grid1.Coords) (arg1 : Memref sig .tc .smem S1x1x1000 .i32) (harg1 : arg1.IsWhole) (arg2 : Memref sig .tc .vmem S32x128 .i32) (harg2 : arg2.IsWhole) (hc0 : ¬cond1_0 i)
    (x0 : Vec F S1x1x1000 .i32) (xo1 : Vec F S32x128 .i32) :
    { L1 : List (View.Piece (Elt F) S32x128 .i32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc1__winner_body i arg1 harg1 arg2 harg2) K } := by
  refine ⟨?_, fun E K => ?run⟩
  case run =>
    simp only [cc1__winner_body_eq_skeleton]; unfold cc1__winner_body_skel
    unfold owns
    iintro ⟨⟨%f0, %hf0, H0⟩, ⟨%f1, %hf1, H1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    iexists _; iexact H1

theorem cover1_B_1 (c : Dev nD) (i : grid1.Coords) (arg1 : Memref sig .tc .smem S1x1x1000 .i32) (harg1 : arg1.IsWhole) (arg2 : Memref sig .tc .vmem S32x128 .i32) (harg2 : arg2.IsWhole) (hc0 : ¬cond1_0 i)
    (x0 : Vec F S1x1x1000 .i32) (xo1 : Vec F S32x128 .i32) (y : S32x128.Idx) :
    ∃ pc ∈ (kernelRun1_B c i arg1 harg1 arg2 harg2 hc0 x0 xo1).1, y ∈ pc.1.set :=
  View.cover_of_tiledL (kernelRun1_B c i arg1 harg1 arg2 harg2 hc0 x0 xo1).1 S32x128.size (by sl_kernel_rfl) y

def out1_B_1 (c : Dev nD) (i : grid1.Coords) (arg1 : Memref sig .tc .smem S1x1x1000 .i32) (harg1 : arg1.IsWhole) (arg2 : Memref sig .tc .vmem S32x128 .i32) (harg2 : arg2.IsWhole) (hc0 : ¬cond1_0 i)
    (x0 : Vec F S1x1x1000 .i32) (xo1 : Vec F S32x128 .i32) : Vec F S32x128 .i32 :=
  VO1_1.read (Elt F) (VO1_1.writes (Elt F) VO1_1.junk (kernelRun1_B c i arg1 harg1 arg2 harg2 hc0 x0 xo1).1)

/-! ## What the outputs hold after each point -/

def outsAt1 (c : Dev nD) : (n : ℕ) → n < cfg1.N → Vec F S32x128 .i32
  | 0, hn => out1_A_1 c (grid1.coords ⟨0, hn⟩) (ms1_0 ⟨0, hn⟩) (hs1_0 ⟨0, hn⟩) (ms1_1 ⟨0, hn⟩) (hs1_1 ⟨0, hn⟩) ((hcond1_0 ⟨0, hn⟩).mpr (Nat.zero_mod _)) (iblk1 V c 0 ⟨0, hn⟩)
  | n + 1, hn =>
    if h0 : (n + 1) % 40 = 0 then
      out1_A_1 c (grid1.coords ⟨n + 1, hn⟩) (ms1_0 ⟨n + 1, hn⟩) (hs1_0 ⟨n + 1, hn⟩) (ms1_1 ⟨n + 1, hn⟩) (hs1_1 ⟨n + 1, hn⟩) ((hcond1_0 ⟨n + 1, hn⟩).mpr h0) (iblk1 V c 0 ⟨n + 1, hn⟩)
    else
      out1_B_1 c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1_0 ⟨n + 1, hn⟩).mp h)) (iblk1 V c 0 ⟨n + 1, hn⟩) (outsAt1 c n (Nat.lt_of_succ_lt hn))

theorem outsAt1_A (c : Dev nD) (t : Fin cfg1.N) (h0 : t.val % 40 = 0) :
    outsAt1 V c t.val t.isLt = out1_A_1 c (grid1.coords t) (ms1_0 t) (hs1_0 t) (ms1_1 t) (hs1_1 t) ((hcond1_0 t).mpr h0) (iblk1 V c 0 t) := by
  obtain ⟨n, hn⟩ := t
  cases n with
  | zero => exact rfl
  | succ n => exact (dif_pos h0).trans rfl

theorem outsAt1_B (c : Dev nD) (t : Fin cfg1.N) (h0 : ¬t.val % 40 = 0) :
    outsAt1 V c t.val t.isLt = out1_B_1 c (grid1.coords t) (ms1_0 t) (hs1_0 t) (ms1_1 t) (hs1_1 t) (fun h => h0 ((hcond1_0 t).mp h)) (iblk1 V c 0 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1_B (c : Dev nD) (t : Fin cfg1.N) (h0 : ¬t.val % 40 = 0) (d) :
    (dat1 V c).before 1 t d = (outsAt1 V c (t.val - 1) (Nat.lt_of_le_of_lt (Nat.sub_le _ _) t.isLt)) := by
  have hN : t.val < 40 := lt_of_lt_of_eq t.isLt (show cfg1.N = 40 from N_1)
  rw [Dat.before_out_kept _ 1 rfl t (by omega) (Bool.eq_false_iff.mpr fun h => by have := (flush1_1 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  have hN : t.val < 40 := lt_of_lt_of_eq t.isLt (show cfg1.N = 40 from N_1)
  by_cases h0 : t.val % 40 = 0
  · rw [outsAt1_A V c t h0]
    unfold out1_A_1
    iintro ⟨HΦ, Ho, ⟨%d0, H0⟩, ⟨%d1, H1⟩⟩
    iapply ((kernelRun1_A c (grid1.coords t) _ _ _ _ ((hcond1_0 t).mpr h0) (iblk1 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_A_1 c _ _ _ _ _ _ _)
  · rw [outsAt1_B V c t h0]
    simp only [before1_1_B V c t h0]
    unfold out1_B_1
    iintro ⟨HΦ, Ho, ⟨%d0, H0⟩, ⟨%d1, H1⟩⟩
    iapply ((kernelRun1_B c (grid1.coords t) _ _ _ _ (fun h => h0 ((hcond1_0 t).mp h)) (iblk1 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_B_1 c _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Region2.lean ====
/- Region 2 of the program, the corner: each window's block at a point, what the body leaves in its output buffers, the body's triple and
   the pipeline's proof data, at any contents `V` of the core's buffers on entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A value for the part of window 0's buffer a transfer would leave out; there is none, and nothing reads it. -/
def dflt2_0 : (cfg2.win 0).block.Idx → Elt F (cfg2.win 0).elt := fun _ => Classical.choice inferInstance
/-- Window 0's staging buffer at point `t`: its block of the array. -/
def X2_0 (c : Dev nD) (t : Fin cfg2.N) : (cfg2.win 0).block.Idx → Elt F (cfg2.win 0).elt :=
  (cfg2.win 0).fill (cfg2.grid.coords t) dflt2_0 (iblk2 V c 0 t)
/-- No transfer of window 0 is cut. -/
theorem xsize2_0 : ∀ t : Fin cfg2.N, ∀ a, (cfg2.win 0).xsize (cfg2.grid.coords t) a = (cfg2.win 0).size a := by decide +kernel
theorem moved2_0 (t : Fin cfg2.N) (j : (cfg2.win 0).block.Idx) : (cfg2.win 0).moved (cfg2.grid.coords t) j = true :=
  ((cfg2.win 0).moved_iff _ j).mpr fun a => by rw [xsize2_0 t a]; exact (j a).isLt
theorem fill2_0 (t : Fin cfg2.N) (d d' : (cfg2.win 0).block.Idx → Elt F (cfg2.win 0).elt) (g) :
    (cfg2.win 0).fill (cfg2.grid.coords t) d g = (cfg2.win 0).fill (cfg2.grid.coords t) d' g := by
  funext j; unfold Pipeline.Window.fill; rw [dif_pos (moved2_0 t j), dif_pos (moved2_0 t j)]
theorem before2_0_of {c : Dev nD} (dat : Dat τ (Elt F) Unit ℕ (UR sig nD τ) ℕ cfg2 c) (hA : dat.A 0 = V c (Pipeline.arrRef spec2 0))
    (hafter : ∀ t, dat.after 0 t = X2_0 V c t) (t : Fin cfg2.N) (d) : dat.before 0 t d = X2_0 V c t :=
  (dat.before_in_eq_fetched 0 rfl (fun _ => rfl)
      (fun t t' h => funext fun a => congrArg (fun n => Pipeline.Clip.of n ((cfg2.win 0).size a) (S64x200x200x16.size a)) (congrFun h a))
      (fun t => by rw [hafter]; unfold X2_0; rw [Pipeline.Window.cut_fill]; unfold Dat.blockOf iblk2; rw [hA]; try rfl) t d).trans
    (by unfold Dat.fetched X2_0; rw [fill2_0 t d dflt2_0]; unfold Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S64x16x16x16 := Rect.unit (s := S64x16x16x16) ![0, 0, 0, 0] S64x16x16x16.size inb_S64x16x16x16_S64x16x16x16_0_0_0_0
abbrev r2_1 : Rect S64x64 := Rect.unit (s := S64x64) ![0, 0] S64x64.size inb_S64x64_S64x64_0_0
abbrev r2_2 : Rect S4096x64 := Rect.unit (s := S4096x64) ![0, 0] S4096x64.size inb_S4096x64_S4096x64_0_0
abbrev r2_3 : Rect S64x4096 := Rect.unit (s := S64x4096) ![0, 0] S64x4096.size inb_S64x4096_S64x4096_0_0
abbrev r2_4 : Rect S64x1 := Rect.unit (s := S64x1) ![0, 0] S64x1.size inb_S64x1_S64x1_0_0

/-! ## What the body leaves in each output window's buffer -/

def out2_5 (x0 : Vec F S64x16x16x16 .f32) (x1 : Vec F S4096x64 .f32) (x2 : Vec F S64x64 .f32) (x3 : Vec F S64x64 .f32) (x4 : Vec F S64x1 .f32) : Vec F S64x4096 .f32 :=
  View.canon [⟨r2_3, k2_pay1 (View.ld x3 r2_1) (View.ld x1 r2_2)⟩]

theorem cover2_5 (p0 : Vec F S64x4096 .f32) (y : S64x4096.Idx) :
    ∃ pc ∈ ([⟨r2_3, p0⟩] : List (View.Piece (Elt F) S64x4096 .f32)), y ∈ pc.1.set :=
  View.cover_of_tiled [⟨r2_3, p0⟩] S64x4096.size (by rfl) y

def out2_6 (x0 : Vec F S64x16x16x16 .f32) (x1 : Vec F S4096x64 .f32) (x2 : Vec F S64x64 .f32) (x3 : Vec F S64x64 .f32) (x4 : Vec F S64x1 .f32) : Vec F S64x1 .f32 :=
  View.canon [⟨r2_4, k2_pay2 (View.ld x3 r2_1) (View.ld x1 r2_2)⟩]

theorem cover2_6 (p0 : Vec F S64x1 .f32) (y : S64x1.Idx) :
    ∃ pc ∈ ([⟨r2_4, p0⟩] : List (View.Piece (Elt F) S64x1 .f32)), y ∈ pc.1.set :=
  View.cover_of_tiled [⟨r2_4, p0⟩] S64x1.size (by rfl) y

def out2_7 (x0 : Vec F S64x16x16x16 .f32) (x1 : Vec F S4096x64 .f32) (x2 : Vec F S64x64 .f32) (x3 : Vec F S64x64 .f32) (x4 : Vec F S64x1 .f32) : Vec F S64x1 .f32 :=
  View.canon [⟨r2_4, k2_pay3 (View.ld x0 r2_0) (View.ld x2 r2_1) (View.ld x3 r2_1) (View.ld x1 r2_2) (View.ld x4 r2_4)⟩]

theorem cover2_7 (p0 : Vec F S64x1 .f32) (y : S64x1.Idx) :
    ∃ pc ∈ ([⟨r2_4, p0⟩] : List (View.Piece (Elt F) S64x1 .f32)), y ∈ pc.1.set :=
  View.cover_of_tiled [⟨r2_4, p0⟩] S64x1.size (by rfl) y

/-! ## The body's triple -/

set_option maxHeartbeats 1000000 in
theorem sound_kernel2 (c : Dev nD) (E : Set ℕ) (i : grid2.Coords) (arg1 : Memref sig .tc .vmem S64x16x16x16 .f32) (harg1 : arg1.IsWhole) (arg2 : Memref sig .tc .vmem S4096x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S64x4096 .f32) (harg6 : arg6.IsWhole) (arg7 : Memref sig .tc .vmem S64x1 .f32) (harg7 : arg7.IsWhole) (arg8 : Memref sig .tc .vmem S64x1 .f32) (harg8 : arg8.IsWhole)
    (x0 : Vec F S64x16x16x16 .f32) (x1 : Vec F S4096x64 .f32) (x2 : Vec F S64x64 .f32) (x3 : Vec F S64x64 .f32) (x4 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4) ∗ owns (c : Thread nD τ) arg7 fullShare (out2_6 x0 x1 x2 x3 x4) ∗ owns (c : Thread nD τ) arg8 fullShare (out2_7 x0 x1 x2 x3 x4)) -∗ K ⟨⟩))
      ⊢ wp frame (wpE (defs₀ (F := F)) Variants.none c none) E (cc2__corner_body i arg1 harg1 arg2 harg2 arg3 harg3 arg4 harg4 arg5 harg5 arg6 harg6 arg7 harg7 arg8 harg8) K := by
  simp only [cc2__corner_body_eq_skeleton]; unfold cc2__corner_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_7 _)

/-! ## The pipeline's proof data -/

def dat2 (c : Dev nD) : Dat τ (Elt F) Unit ℕ (UR sig nD τ) ℕ cfg2 c where
  A w := V c (Pipeline.arrRef spec2 w)
  after w t := match w with
    | ⟨0, _⟩ => X2_0 V c t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (X2_0 V c t) (iblk2 V c 1 t) (iblk2 V c 2 t) (iblk2 V c 3 t) (iblk2 V c 4 t)
    | ⟨6, _⟩ => out2_6 (X2_0 V c t) (iblk2 V c 1 t) (iblk2 V c 2 t) (iblk2 V c 3 t) (iblk2 V c 4 t)
    | ⟨7, _⟩ => out2_7 (X2_0 V c t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = X2_0 V c t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (X2_0 V c t) (iblk2 V c 1 t) (iblk2 V c 2 t) (iblk2 V c 3 t) (iblk2 V c 4 t) := by dsimp only [dat2]
theorem after2_6 (c : Dev nD) (t : Fin cfg2.N) : (dat2 V c).after 6 t = out2_6 (X2_0 V c t) (iblk2 V c 1 t) (iblk2 V c 2 t) (iblk2 V c 3 t) (iblk2 V c 4 t) := by dsimp only [dat2]
theorem after2_7 (c : Dev nD) (t : Fin cfg2.N) : (dat2 V c).after 7 t = out2_7 (X2_0 V c t) (iblk2 V c 1 t) (iblk2 V c 2 t) (iblk2 V c 3 t) (iblk2 V c 4 t) := by dsimp only [dat2]

theorem before2_0 (c : Dev nD) (t : Fin cfg2.N) (d) : (dat2 V c).before 0 t d = X2_0 V c t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (X2_0 V c t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.Region3.lean ====
/- Region 3 of the program, the gram sums: each window's block at a point, what the body leaves in its output buffers, the body's triple and
   the pipeline's proof data, at any contents `V` of the core's buffers on entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 50 = 0 :=
  (fun t => by
    have ht : t.val < 50 := Nat.lt_of_lt_of_eq t.isLt N_3
    have e0 : (grid3.coords t 0).val = t.val / 1 % 50 := Pipeline.Grid.coords_val t 0 (by decide) rfl
    simp only [cond3_0, e0]
    word_cmp
   : ∀ t : Fin grid3.N, cond3_0 (grid3.coords t) ↔ t.val % 50 = 0)

/-! ## The kernel body on any staging memrefs: a subtype the run finds -/

abbrev VO3_1 : View sig .tc .vmem S64x64 .f32 := (Memref.whole cc3_stg1_0 : Memref sig .tc .vmem S64x64 .f32).view
abbrev VO3_2 : View sig .tc .vmem S64x1 .f32 := (Memref.whole cc3_stg2_0 : Memref sig .tc .vmem S64x1 .f32).view
abbrev ms3_0 (t : Fin cfg3.N) : Memref sig .tc .vmem S64x12800 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x1 .f32 := win3_2.stage (cfg3.slots t 2)
abbrev hs3_2 (t : Fin cfg3.N) : (ms3_2 t).IsWhole := hstage3_2 ((cfg3.slots t 2).cast nbuf3_2)

set_option maxHeartbeats 1000000 in
noncomputable def kernelRun3_A (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : cond3_0 i)
    (x0 : Vec F S64x12800 .f32) :
    Σ' (L1 : List (View.Piece (Elt F) S64x64 .f32)), { L2 : List (View.Piece (Elt F) S64x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc3__gram_body i arg1 harg1 arg2 harg2 arg3 harg3) K } := by
  refine ⟨?_, ?_, fun E K => ?run⟩
  case run =>
    simp only [cc3__gram_body_eq_skeleton]; unfold cc3__gram_body_skel
    unfold owns
    iintro ⟨⟨%f0, %hf0, H0⟩, ⟨%d1, %f1, -, H1⟩, ⟨%d2, %f2, -, H2⟩, Hk⟩
    obtain rfl := harg1.eq_unread hf0
    sl_exec (disch := first | sl_exact hc0)
    sl_step
    iapply Hk
    isplitl [H0]
    · iexists _; isplitr; · ipureintro; exact harg1.read_unread _
      iexact H0
    isplitl [H1]; · iexists _; iexact H1
    iexists _; iexact H2

theorem cover3_A_1 (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : cond3_0 i)
    (x0 : Vec F S64x12800 .f32) (y : S64x64.Idx) :
    ∃ pc ∈ (kernelRun3_A c i arg1 harg1 arg2 harg2 arg3 harg3 hc0 x0).1, y ∈ pc.1.set :=
  View.cover_of_tiledL (kernelRun3_A c i arg1 harg1 arg2 harg2 arg3 harg3 hc0 x0).1 S64x64.size (by sl_kernel_rfl) y

def out3_A_1 (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : cond3_0 i)
    (x0 : Vec F S64x12800 .f32) : Vec F S64x64 .f32 :=
  VO3_1.read (Elt F) (VO3_1.writes (Elt F) VO3_1.junk (kernelRun3_A c i arg1 harg1 arg2 harg2 arg3 harg3 hc0 x0).1)

theorem cover3_A_2 (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : cond3_0 i)
    (x0 : Vec F S64x12800 .f32) (y : S64x1.Idx) :
    ∃ pc ∈ (kernelRun3_A c i arg1 harg1 arg2 harg2 arg3 harg3 hc0 x0).2.1, y ∈ pc.1.set :=
  View.cover_of_tiledL (kernelRun3_A c i arg1 harg1 arg2 harg2 arg3 harg3 hc0 x0).2.1 S64x1.size (by sl_kernel_rfl) y

def out3_A_2 (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : cond3_0 i)
    (x0 : Vec F S64x12800 .f32) : Vec F S64x1 .f32 :=
  VO3_2.read (Elt F) (VO3_2.writes (Elt F) VO3_2.junk (kernelRun3_A c i arg1 harg1 arg2 harg2 arg3 harg3 hc0 x0).2.1)

set_option maxHeartbeats 1000000 in
noncomputable def kernelRun3_B (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : ¬cond3_0 i)
    (x0 : Vec F S64x12800 .f32) (xo1 : Vec F S64x64 .f32) (xo2 : Vec F S64x1 .f32) :
    Σ' (L1 : List (View.Piece (Elt F) S64x64 .f32)), { L2 : List (View.Piece (Elt F) S64x1 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc3__gram_body i arg1 harg1 arg2 harg2 arg3 harg3) K } := by
  refine ⟨?_, ?_, fun E K => ?run⟩
  case run =>
    simp only [cc3__gram_body_eq_skeleton]; unfold cc3__gram_body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]; · iexists _; iexact H1
    iexists _; iexact H2

theorem cover3_B_1 (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : ¬cond3_0 i)
    (x0 : Vec F S64x12800 .f32) (xo1 : Vec F S64x64 .f32) (xo2 : Vec F S64x1 .f32) (y : S64x64.Idx) :
    ∃ pc ∈ (kernelRun3_B c i arg1 harg1 arg2 harg2 arg3 harg3 hc0 x0 xo1 xo2).1, y ∈ pc.1.set :=
  View.cover_of_tiledL (kernelRun3_B c i arg1 harg1 arg2 harg2 arg3 harg3 hc0 x0 xo1 xo2).1 S64x64.size (by sl_kernel_rfl) y

def out3_B_1 (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : ¬cond3_0 i)
    (x0 : Vec F S64x12800 .f32) (xo1 : Vec F S64x64 .f32) (xo2 : Vec F S64x1 .f32) : Vec F S64x64 .f32 :=
  VO3_1.read (Elt F) (VO3_1.writes (Elt F) VO3_1.junk (kernelRun3_B c i arg1 harg1 arg2 harg2 arg3 harg3 hc0 x0 xo1 xo2).1)

theorem cover3_B_2 (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : ¬cond3_0 i)
    (x0 : Vec F S64x12800 .f32) (xo1 : Vec F S64x64 .f32) (xo2 : Vec F S64x1 .f32) (y : S64x1.Idx) :
    ∃ pc ∈ (kernelRun3_B c i arg1 harg1 arg2 harg2 arg3 harg3 hc0 x0 xo1 xo2).2.1, y ∈ pc.1.set :=
  View.cover_of_tiledL (kernelRun3_B c i arg1 harg1 arg2 harg2 arg3 harg3 hc0 x0 xo1 xo2).2.1 S64x1.size (by sl_kernel_rfl) y

def out3_B_2 (c : Dev nD) (i : grid3.Coords) (arg1 : Memref sig .tc .vmem S64x12800 .f32) (harg1 : arg1.IsWhole) (arg2 : Memref sig .tc .vmem S64x64 .f32) (harg2 : arg2.IsWhole) (arg3 : Memref sig .tc .vmem S64x1 .f32) (harg3 : arg3.IsWhole) (hc0 : ¬cond3_0 i)
    (x0 : Vec F S64x12800 .f32) (xo1 : Vec F S64x64 .f32) (xo2 : Vec F S64x1 .f32) : Vec F S64x1 .f32 :=
  VO3_2.read (Elt F) (VO3_2.writes (Elt F) VO3_2.junk (kernelRun3_B c i arg1 harg1 arg2 harg2 arg3 harg3 hc0 x0 xo1 xo2).2.1)

/-! ## What the outputs hold after each point -/

def outsAt3 (c : Dev nD) : (n : ℕ) → n < cfg3.N → Vec F S64x64 .f32 × Vec F S64x1 .f32
  | 0, hn => (out3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) ((hcond3_0 ⟨0, hn⟩).mpr (Nat.zero_mod _)) (iblk3 V c 0 ⟨0, hn⟩), out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) ((hcond3_0 ⟨0, hn⟩).mpr (Nat.zero_mod _)) (iblk3 V c 0 ⟨0, hn⟩))
  | n + 1, hn =>
    if h0 : (n + 1) % 50 = 0 then
      (out3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) ((hcond3_0 ⟨n + 1, hn⟩).mpr h0) (iblk3 V c 0 ⟨n + 1, hn⟩), out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) ((hcond3_0 ⟨n + 1, hn⟩).mpr h0) (iblk3 V c 0 ⟨n + 1, hn⟩))
    else
      (out3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (fun h => h0 ((hcond3_0 ⟨n + 1, hn⟩).mp h)) (iblk3 V c 0 ⟨n + 1, hn⟩) (outsAt3 c n (Nat.lt_of_succ_lt hn)).1 (outsAt3 c n (Nat.lt_of_succ_lt hn)).2, out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (fun h => h0 ((hcond3_0 ⟨n + 1, hn⟩).mp h)) (iblk3 V c 0 ⟨n + 1, hn⟩) (outsAt3 c n (Nat.lt_of_succ_lt hn)).1 (outsAt3 c n (Nat.lt_of_succ_lt hn)).2)

theorem outsAt3_A (c : Dev nD) (t : Fin cfg3.N) (h0 : t.val % 50 = 0) :
    outsAt3 V c t.val t.isLt = (out3_A_1 c (grid3.coords t) (ms3_0 t) (hs3_0 t) (ms3_1 t) (hs3_1 t) (ms3_2 t) (hs3_2 t) ((hcond3_0 t).mpr h0) (iblk3 V c 0 t), out3_A_2 c (grid3.coords t) (ms3_0 t) (hs3_0 t) (ms3_1 t) (hs3_1 t) (ms3_2 t) (hs3_2 t) ((hcond3_0 t).mpr h0) (iblk3 V c 0 t)) := by
  obtain ⟨n, hn⟩ := t
  cases n with
  | zero => exact rfl
  | succ n => exact (dif_pos h0).trans rfl

theorem outsAt3_B (c : Dev nD) (t : Fin cfg3.N) (h0 : ¬t.val % 50 = 0) :
    outsAt3 V c t.val t.isLt = (out3_B_1 c (grid3.coords t) (ms3_0 t) (hs3_0 t) (ms3_1 t) (hs3_1 t) (ms3_2 t) (hs3_2 t) (fun h => h0 ((hcond3_0 t).mp h)) (iblk3 V c 0 t) (outsAt3 V c (t.val - 1) (Nat.lt_of_le_of_lt (Nat.sub_le _ _) t.isLt)).1 (outsAt3 V c (t.val - 1) (Nat.lt_of_le_of_lt (Nat.sub_le _ _) t.isLt)).2, out3_B_2 c (grid3.coords t) (ms3_0 t) (hs3_0 t) (ms3_1 t) (hs3_1 t) (ms3_2 t) (hs3_2 t) (fun h => h0 ((hcond3_0 t).mp h)) (iblk3 V c 0 t) (outsAt3 V c (t.val - 1) (Nat.lt_of_le_of_lt (Nat.sub_le _ _) t.isLt)).1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt).1
    | ⟨2, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt).1 := by dsimp only [dat3]
theorem after3_2 (c : Dev nD) (t : Fin cfg3.N) : (dat3 V c).after 2 t = (outsAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1_B (c : Dev nD) (t : Fin cfg3.N) (h0 : ¬t.val % 50 = 0) (d) :
    (dat3 V c).before 1 t d = (outsAt3 V c (t.val - 1) (Nat.lt_of_le_of_lt (Nat.sub_le _ _) t.isLt)).1 := by
  have hN : t.val < 50 := lt_of_lt_of_eq t.isLt (show cfg3.N = 50 from N_3)
  rw [Dat.before_out_kept _ 1 rfl t (by omega) (Bool.eq_false_iff.mpr fun h => by have := (flush3_1 _).mp h; dsimp only at this; omega)
    (fun _ => rfl) (fun _ _ => rfl)]
  dsimp only [dat3]
theorem before3_2_B (c : Dev nD) (t : Fin cfg3.N) (h0 : ¬t.val % 50 = 0) (d) :
    (dat3 V c).before 2 t d = (outsAt3 V c (t.val - 1) (Nat.lt_of_le_of_lt (Nat.sub_le _ _) t.isLt)).2 := by
  have hN : t.val < 50 := lt_of_lt_of_eq t.isLt (show cfg3.N = 50 from N_3)
  rw [Dat.before_out_kept _ 2 rfl t (by omega) (Bool.eq_false_iff.mpr fun h => by have := (flush3_2 _).mp h; dsimp only at this; omega)
    (fun _ => rfl) (fun _ _ => rfl)]
  dsimp only [dat3]

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1, after3_2]
  have hN : t.val < 50 := lt_of_lt_of_eq t.isLt (show cfg3.N = 50 from N_3)
  by_cases h0 : t.val % 50 = 0
  · rw [outsAt3_A V c t h0]
    unfold out3_A_1 out3_A_2; (try dsimp only)
    iintro ⟨HΦ, Ho, ⟨%d0, H0⟩, ⟨%d1, H1⟩, ⟨%d2, H2⟩⟩
    iapply ((kernelRun3_A c (grid3.coords t) _ _ _ _ _ _ ((hcond3_0 t).mpr h0) (iblk3 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover3_A_1 c _ _ _ _ _ _ _ _ _)
    unfold owns; iexists _; isplitr
    swap; · iexact H2
    ipureintro; exact View.read_writes_of_cover _ _ _ _ _ (cover3_A_2 c _ _ _ _ _ _ _ _ _)
  · rw [outsAt3_B V c t h0]
    simp only [before3_1_B V c t h0, before3_2_B V c t h0]
    unfold out3_B_1 out3_B_2; (try dsimp only)
    iintro ⟨HΦ, Ho, ⟨%d0, H0⟩, ⟨%d1, H1⟩, ⟨%d2, H2⟩⟩
    iapply ((kernelRun3_B c (grid3.coords t) _ _ _ _ _ _ (fun h => h0 ((hcond3_0 t).mp h)) (iblk3 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover3_B_1 c _ _ _ _ _ _ _ _ _ _ _)
    unfold owns; iexists _; isplitr
    swap; · iexact H2
    ipureintro; exact View.read_writes_of_cover _ _ _ _ _ (cover3_B_2 c _ _ _ _ _ _ _ _ _ _ _)

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Hand

end
-- ==== Proof.Region4.lean ====
/- Region 4 of the program, the output pass: each window's block at a point, what the body leaves in its output buffers, the body's triple and
   the pipeline's proof data, at any contents `V` of the core's buffers on entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The kernel body on any staging memrefs: a subtype the run finds -/

abbrev VO4_4 : View sig .tc .vmem S64x3200 .f32 := (Memref.whole cc4_stg4_0 : Memref sig .tc .vmem S64x3200 .f32).view
abbrev ms4_0 (t : Fin cfg4.N) : Memref sig .tc .vmem S64x3200 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x3200 .f32 := win4_4.stage (cfg4.slots t 4)
abbrev hs4_4 (t : Fin cfg4.N) : (ms4_4 t).IsWhole := hstage4_4 ((cfg4.slots t 4).cast nbuf4_4)

set_option maxHeartbeats 1000000 in
noncomputable def kernelRun4_A (c : Dev nD) (i : grid4.Coords) (arg1 : Memref sig .tc .vmem S64x3200 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S1x64x256 .f32) (harg4 : arg4.IsWhole) (arg5 : Memref sig .tc .vmem S64x3200 .f32) (harg5 : arg5.IsWhole)
    (x0 : Vec F S64x3200 .f32) (x1 : Vec F S64x64 .f32) (x2 : Vec F S64x1 .f32) (x3 : Vec F S1x64x256 .f32) :
    { L4 : List (View.Piece (Elt F) S64x3200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc4__out_body i arg1 harg1 arg2 harg2 arg3 harg3 arg4 harg4 arg5 harg5) K } := by
  refine ⟨?_, fun E K => ?run⟩
  case run =>
    simp only [cc4__out_body_eq_skeleton]; unfold cc4__out_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

theorem cover4_A_4 (c : Dev nD) (i : grid4.Coords) (arg1 : Memref sig .tc .vmem S64x3200 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S1x64x256 .f32) (harg4 : arg4.IsWhole) (arg5 : Memref sig .tc .vmem S64x3200 .f32) (harg5 : arg5.IsWhole)
    (x0 : Vec F S64x3200 .f32) (x1 : Vec F S64x64 .f32) (x2 : Vec F S64x1 .f32) (x3 : Vec F S1x64x256 .f32) (y : S64x3200.Idx) :
    ∃ pc ∈ (kernelRun4_A c i arg1 harg1 arg2 harg2 arg3 harg3 arg4 harg4 arg5 harg5 x0 x1 x2 x3).1, y ∈ pc.1.set :=
  View.cover_of_tiledBy (kernelRun4_A c i arg1 harg1 arg2 harg2 arg3 harg3 arg4 harg4 arg5 harg5 x0 x1 x2 x3).1 ![64, 128] (by sl_kernel_rfl) y

def out4_A_4 (c : Dev nD) (i : grid4.Coords) (arg1 : Memref sig .tc .vmem S64x3200 .f32) (harg1 : arg1.IsWhole) (arg2 : Memref sig .tc .vmem S64x64 .f32) (harg2 : arg2.IsWhole) (arg3 : Memref sig .tc .vmem S64x1 .f32) (harg3 : arg3.IsWhole) (arg4 : Memref sig .tc .vmem S1x64x256 .f32) (harg4 : arg4.IsWhole) (arg5 : Memref sig .tc .vmem S64x3200 .f32) (harg5 : arg5.IsWhole)
    (x0 : Vec F S64x3200 .f32) (x1 : Vec F S64x64 .f32) (x2 : Vec F S64x1 .f32) (x3 : Vec F S1x64x256 .f32) : Vec F S64x3200 .f32 :=
  VO4_4.read (Elt F) (VO4_4.writes (Elt F) VO4_4.junk (kernelRun4_A c i arg1 harg1 arg2 harg2 arg3 harg3 arg4 harg4 arg5 harg5 x0 x1 x2 x3).1)

/-! ## What the outputs hold after each point -/

def outsAt4 (c : Dev nD) (t : Fin cfg4.N) : Vec F S64x3200 .f32 :=
  out4_A_4 c (grid4.coords t) (ms4_0 t) (hs4_0 t) (ms4_1 t) (hs4_1 t) (ms4_2 t) (hs4_2 t) (ms4_3 t) (hs4_3 t) (ms4_4 t) (hs4_4 t) (iblk4 V c 0 t) (iblk4 V c 1 t) (iblk4 V c 2 t) (iblk4 V c 3 t)

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  unfold outsAt4
  unfold out4_A_4
  iintro ⟨HΦ, Ho, ⟨%d0, H0⟩, ⟨%d1, H1⟩, ⟨%d2, H2⟩, ⟨%d3, H3⟩, ⟨%d4, H4⟩⟩
  iapply ((kernelRun4_A c (grid4.coords t) _ _ _ _ _ _ _ _ _ _ (iblk4 V c 0 t) (iblk4 V c 1 t) (iblk4 V c 2 t) (iblk4 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4_A_4 c _ _ _ _ _ _ _ _ _ _ _ _ _ _ _)

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Hand

end
-- ==== Proof.Run.lean ====
/- The run of the whole program: the contents of every buffer at each boundary between segments of @main, the regions as segments, and the
   final state: the arguments as launched, the result buffer at the last boundary's contents, every semaphore at zero. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Region0
public import proofs.«01_k».proof.Proof.Region1
public import proofs.«01_k».proof.Proof.Region2
public import proofs.«01_k».proof.Proof.Region3
public import proofs.«01_k».proof.Proof.Region4

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch (Lib/StableHlo/Run.lean
    `after_of_writes_sub`) -/

theorem hostOps0_fresh : (hostOps0 : List (HloOp τ sig (Elt F))).Forall fun op => op.fresh = ∅ := by
  simp only [List.Forall]; repeat' constructor
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v5, main_v6, main_c, main_v7, main_v8, main_v9, main_v10, main_c_0, main_v11, main_v12, main_v13, main_v14, main_v15, main_v16, main_v17]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v19, main_c_1, main_v20, main_v21, main_v22, main_c_2, main_v23, main_v24, main_c_3, main_v25, main_v26, main_c_4, main_v27, main_v28, main_v29, main_v30, main_v31, main_cst]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps2_1_fresh : (hostOps2_1 : List (HloOp τ sig (Elt F))).Forall fun op => op.fresh = ∅ := by
  simp only [List.Forall]; repeat' constructor
abbrev hostOps2_1_W : List (Ref sig .tc) := [main_call0_v0, main_call0_v1, main_call0_v2, main_v32]
theorem hostOps2_1_writes : (hostOps2_1 : List (HloOp τ sig (Elt F))).Forall fun op => op.writes ⊆ (hostOps2_1_W.map (Proc.devRef (τ := τ) .tc)).toFinset :=
  StableHlo.forall_writes_sub_of_map rfl
theorem hostOps2_1_args : ∀ a ∈ argRefs, a ∉ hostOps2_1_W := ListAll.forall_mem_of_all_decide (by decide +kernel)

theorem hostOps2_2_fresh : (hostOps2_2 : List (HloOp τ sig (Elt F))).Forall fun op => op.fresh = ∅ := by
  simp only [List.Forall]; repeat' constructor
abbrev hostOps2_2_W : List (Ref sig .tc) := [main_v33, main_v34, main_v35]
theorem hostOps2_2_writes : (hostOps2_2 : List (HloOp τ sig (Elt F))).Forall fun op => op.writes ⊆ (hostOps2_2_W.map (Proc.devRef (τ := τ) .tc)).toFinset :=
  StableHlo.forall_writes_sub_of_map rfl
theorem hostOps2_2_args : ∀ a ∈ argRefs, a ∉ hostOps2_2_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v38, main_v39, main_cst_5, main_v40, main_v41, main_v42, main_v43, main_v44, main_v45, main_v46, main_cst_6, main_v47, main_v48, main_v49, main_v50, main_cst_7, main_v51, main_v52, main_v53, main_v54, main_v55, main_v56, main_cst_8, main_v57, main_v58, main_cst_9, main_v59, main_v60, main_v61, main_v62, main_cst_10, main_v63, main_v64, main_v65, main_v66, main_v67, main_v68, main_v69, main_v70, main_v71, main_c_11, main_v72, main_v73, main_v74, main_v75, main_v76, main_v77, main_v78, main_v79, main_v80, main_v81, main_v82, main_v83, main_v84, main_v85]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

theorem hostOps5_fresh : (hostOps5 : List (HloOp τ sig (Elt F))).Forall fun op => op.fresh = ∅ := by
  simp only [List.Forall]; repeat' constructor
abbrev hostOps5_W : List (Ref sig .tc) := [main_v87]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

/-! ## The buffer contents at each segment boundary: a fold through @main, and what each item leaves unchanged -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev W6 : Dev nD → Valuation τ sig (Elt F) := fun c => StableHlo.after hostOps2_1 (W5 m ρ c)
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h
theorem W6_args (c : Dev nD) : ∀ a ∈ argRefs, W6 m ρ c (Proc.devRef .tc a) = m ((c : Thread nD τ).loc a) :=
  fun a ha => (W6_of m ρ c a (hostOps2_1_args a ha)).trans (W5_args m ρ c a ha)
abbrev W7 : Dev nD → Valuation τ sig (Elt F) := fun c => StableHlo.after hostOps2_2 (W6 m ρ c)
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h
theorem W7_args (c : Dev nD) : ∀ a ∈ argRefs, W7 m ρ c (Proc.devRef .tc a) = m ((c : Thread nD τ).loc a) :=
  fun a ha => (W7_of m ρ c a (hostOps2_2_args a ha)).trans (W6_args m ρ c a ha)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
theorem W9_of (c : Dev nD) (r : Ref sig .tc) (h : ∀ w : Fin cfg3.W, Pipeline.arrRef spec3 w = r → (cfg3.win w).isOut = false) :
    W9 m ρ c (Proc.devRef .tc r) = W8 m ρ c (Proc.devRef .tc r) := by
  by_cases hw : ∃ w : Fin cfg3.W, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn3 a ha)).trans (W8_args m ρ c a ha)
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

abbrev W10 : Dev nD → Valuation τ sig (Elt F) := fun c => StableHlo.after hostOps4 (W9 m ρ c)
theorem W10_of (c : Dev nD) (r : Ref sig .tc) (h : r ∉ hostOps4_W) : W10 m ρ c (Proc.devRef .tc r) = W9 m ρ c (Proc.devRef .tc r) :=
  StableHlo.after_of_writes_sub hostOps4 _ hostOps4_writes h
theorem W10_args (c : Dev nD) : ∀ a ∈ argRefs, W10 m ρ c (Proc.devRef .tc a) = m ((c : Thread nD τ).loc a) :=
  fun a ha => (W10_of m ρ c a (hostOps4_args a ha)).trans (W9_args m ρ c a ha)
abbrev V10 : (c : Dev nD) → (b : Ref sig .tc) → Buf (Elt F) ((c : Thread nD τ).loc b) := fun c b => W10 m ρ c b
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
theorem W11_of (c : Dev nD) (r : Ref sig .tc) (h : ∀ w : Fin cfg4.W, Pipeline.arrRef spec4 w = r → (cfg4.win w).isOut = false) :
    W11 m ρ c (Proc.devRef .tc r) = W10 m ρ c (Proc.devRef .tc r) := by
  by_cases hw : ∃ w : Fin cfg4.W, Pipeline.arrRef spec4 w = r
  · obtain ⟨w, rfl⟩ := hw
    exact (W11_arr m ρ c w).trans (((dat4 (V10 m ρ) c).arrAt_in w (h w rfl) _).trans (A_eq4 (V10 m ρ) c w))
  · exact W11_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn4 a ha)).trans (W10_args m ρ c a ha)
abbrev V11 : (c : Dev nD) → (b : Ref sig .tc) → Buf (Elt F) ((c : Thread nD τ).loc b) := fun c b => W11 m ρ c b
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

abbrev W12 : Dev nD → Valuation τ sig (Elt F) := fun c => StableHlo.after hostOps5 (W11 m ρ c)
theorem W12_of (c : Dev nD) (r : Ref sig .tc) (h : r ∉ hostOps5_W) : W12 m ρ c (Proc.devRef .tc r) = W11 m ρ c (Proc.devRef .tc r) :=
  StableHlo.after_of_writes_sub hostOps5 _ hostOps5_writes h
theorem W12_args (c : Dev nD) : ∀ a ∈ argRefs, W12 m ρ c (Proc.devRef .tc a) = m ((c : Thread nD τ).loc a) :=
  fun a ha => (W12_of m ρ c a (hostOps5_args a ha)).trans (W11_args m ρ c a ha)

/-! ### The arguments end as launched: no host stretch writes one and no region may change one (a region reads it
    through an input window or bypasses it) -/

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)
theorem W12_main_arg3 (c : Dev nD) : W12 m ρ c (Proc.devRef .tc main_arg3) = m ((c : Thread nD τ).loc main_arg3) :=
  W12_args m ρ c main_arg3 (by decide)
theorem W12_main_arg4 (c : Dev nD) : W12 m ρ c (Proc.devRef .tc main_arg4) = m ((c : Thread nD τ).loc main_arg4) :=
  W12_args m ρ c main_arg4 (by decide)
theorem W12_main_arg5 (c : Dev nD) : W12 m ρ c (Proc.devRef .tc main_arg5) = m ((c : Thread nD τ).loc main_arg5) :=
  W12_args m ρ c main_arg5 (by decide)
theorem W12_main_arg6 (c : Dev nD) : W12 m ρ c (Proc.devRef .tc main_arg6) = m ((c : Thread nD τ).loc main_arg6) :=
  W12_args m ρ c main_arg6 (by decide)
theorem W12_main_arg7 (c : Dev nD) : W12 m ρ c (Proc.devRef .tc main_arg7) = m ((c : Thread nD τ).loc main_arg7) :=
  W12_args m ρ c main_arg7 (by decide)
theorem W12_main_arg8 (c : Dev nD) : W12 m ρ c (Proc.devRef .tc main_arg8) = m ((c : Thread nD τ).loc main_arg8) :=
  W12_args m ρ c main_arg8 (by decide)
theorem W12_main_arg9 (c : Dev nD) : W12 m ρ c (Proc.devRef .tc main_arg9) = m ((c : Thread nD τ).loc main_arg9) :=
  W12_args m ρ c main_arg9 (by decide)
theorem W12_main_arg10 (c : Dev nD) : W12 m ρ c (Proc.devRef .tc main_arg10) = m ((c : Thread nD τ).loc main_arg10) :=
  W12_args m ρ c main_arg10 (by decide)

/-! ## The proof data family and the thread state -/

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) c
  | ⟨3, _⟩ => fun c => dat3 (V8 m ρ) c
  | ⟨4, _⟩ => fun c => dat4 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) (A_eq3 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) (A_eq4 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .region (reg3 m ρ),
    .host (hseg hostOps4 hostOps4_sub hostOps4_fresh (W9 m ρ)),
    .region (reg4 m ρ),
    .host (hseg hostOps5 hostOps5_sub hostOps5_fresh (W11 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_v87) = W12 m ρ c (Proc.devRef .tc main_v87))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨(fun c =>
      ⟨(h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       h c _ (mem_uc main_v87 (by decide))⟩), funext fun g => hz g (.inr (no_unscoped g.2))⟩)

end Cert.KernelIdeal.Hand

end
-- ==== Proof.Frames.lean ====
module

public import proofs.«01_k».proof.Defs
public import proofs.«01_k».proof.Proof.Run
public import proofs.«01_k».proof.Proof.Gen.Kernel
public import proofs.«01_k».proof.Proof.Gen.ReferenceIdeal.Run

@[expose] public section

noncomputable section

open Idealize.ShloMosaic Idealize.ShloMosaic.TcCoe Idealize.SL.Sem

namespace Cert.KernelIdeal.Hand

/-- The frame over any float values: every run ends, leaves the arguments as they were and every counter at zero. -/
def Quiet (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0)

theorem quiet (F : FTy → Type) [FloatOps F] : Quiet F := fun m g _ =>
  (θ_run _ _ _).mono (fun _ h => ⟨fun c => by
    obtain ⟨h0, h1, h2, h3, h4, h5, h6, h7, h8, h9, h10, -⟩ := h.1 c
    exact ⟨h0, h1, h2, h3, h4, h5, h6, h7, h8, h9, h10⟩, h.2⟩) (run m g)

/-- The kernel over the words and its ideal form are the same program text: the frame is the same statement. -/
theorem quiescent_words : Cert.quiescent_Kernel (hKernel := Cert.Kernel.Gen.facts) = Quiet Bits := by
  sl_kernel_rfl

end Cert.KernelIdeal.Hand

namespace Cert.ReferenceIdeal.Hand

open Cert.ReferenceIdeal

theorem quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run _ _ _).mono (fun r h => ⟨fun c => (h c).2, sem_eq_zero_of_no_sems (by decide) r.2⟩) (Value.run m g)

end Cert.ReferenceIdeal.Hand

end
-- ==== Proof.HostA.lean ====
/- What the host operations before the last kernel leave: the weights' two halves, the cell numbers, the corner's features, and the
   activations and the bias under their other shapes. -/
module

public import proofs.«01_k».proof.Proof.Run
public import Idealize.ShloMosaic.Lib.Pipeline.ValueKit
public import Idealize.ShloMosaic.Lib.Pointwise
public import Idealize.ShloMosaic.Lib.IdealHost
public import Idealize.ShloMosaic.Lib.StableHlo.ReadAt
public import Idealize.ShloMosaic.Lib.Routing.Ops

@[expose] public section

set_option maxRecDepth 16384

noncomputable section

namespace Cert.KernelIdeal.Hand

open Cert.KernelIdeal Cert.KernelIdeal.Gen
open Idealize.ShloMosaic Idealize.ShloMosaic.TcCoe Idealize.SL.Sem

variable (V : Valuation τ sig (Elt Ideal))

theorem after0_v0 (o k : Fin 64) : (StableHlo.after hostOps0 V (Proc.devRef .tc main_v0) : FVec Ideal S64x64 .f32) (ix2 o k)
    = (V (Proc.devRef .tc main_arg7) : FVec Ideal S64x128 .f32) (ix2 o ⟨k.val, by omega⟩) := by
  after_reads_at

theorem after0_v1 (o k : Fin 64) : (StableHlo.after hostOps0 V (Proc.devRef .tc main_v1) : FVec Ideal S64x64 .f32) (ix2 o k)
    = (V (Proc.devRef .tc main_arg7) : FVec Ideal S64x128 .f32) (ix2 o ⟨64 + k.val, by omega⟩) := by
  after_reads_at

theorem after0_v2 (k : Fin 64) : (StableHlo.after hostOps0 V (Proc.devRef .tc main_v2) : FVec Ideal S1x64 .f32) (ix2 0 k)
    = (V (Proc.devRef .tc main_arg4) : FVec Ideal S64 .f32) (ix1 k) := by
  after_reads_at

theorem after0_v3 (k : Fin 64) : (StableHlo.after hostOps0 V (Proc.devRef .tc main_v3) : FVec Ideal S1x64 .f32) (ix2 0 k)
    = (V (Proc.devRef .tc main_arg6) : FVec Ideal S64 .f32) (ix1 k) := by
  after_reads_at

/-- The cell number of a voxel, as the program counts it. -/
def cellWord (co : IVec S40000x3 32) (n : Fin 40000) : BitVec 32 :=
  co (ix2 n 1) * 256#32 + co (ix2 n 0) * 16#32 + co (ix2 n 2)

theorem after1_v17 (a : Fin 40) (b : Fin 1000) : (StableHlo.after hostOps1 V (Proc.devRef .tc main_v17) : IVec S40x1x1000 32) (ix3 a 0 b)
    = cellWord (V (Proc.devRef .tc main_arg2)) ⟨a.val * 1000 + b.val, by omega⟩ := by
  unfold cellWord
  after_reads_at
  rfl

theorem after22_v33 (k : Fin 64) (y x : Fin 200) (z : Fin 16) : (StableHlo.after hostOps2_2 V (Proc.devRef .tc main_v33) : FVec Ideal S64x200x200x16 .f32) (ix4 k y x z)
    = (V (Proc.devRef .tc main_arg0) : FVec Ideal S1x64x200x200x16 .f32) (ix5 0 k y x z) := by
  after_reads_at

theorem after22_v34 (k : Fin 64) (l : Fin 640000) : (StableHlo.after hostOps2_2 V (Proc.devRef .tc main_v34) : FVec Ideal S64x640000 .f32) (ix2 k l)
    = (V (Proc.devRef .tc main_arg0) : FVec Ideal S1x64x200x200x16 .f32) (ix5 0 k ⟨l.val / 3200, by omega⟩ ⟨l.val / 16 % 200, by omega⟩ ⟨l.val % 16, by omega⟩) := by
  after_reads_at

theorem after22_v35 (k : Fin 64) : (StableHlo.after hostOps2_2 V (Proc.devRef .tc main_v35) : FVec Ideal S64x1 .f32) (ix2 k 0)
    = (V (Proc.devRef .tc main_arg8) : FVec Ideal S64 .f32) (ix1 k) := by
  after_reads_at

/-- The row of the table that a cell's word names, clamped below at row zero. -/
def rowWord (w : BitVec 32) : BitVec 32 := Scalar.select (Scalar.cmpi .slt (Scalar.maxsi w 0#32) 0#32) (Scalar.addi (Scalar.maxsi w 0#32) 40000#32) (Scalar.maxsi w 0#32)

theorem after2_v30 (l : Fin 4096) : (StableHlo.after hostOps2 V (Proc.devRef .tc main_v30) : IVec S4096x1 32) (ix2 l 0)
    = rowWord ((V (Proc.devRef .tc main_v18) : IVec S32x128 32) (ix2 ⟨l.val / 128, by omega⟩ ⟨l.val % 128, by omega⟩)) := by
  unfold rowWord
  after_reads_at
  rfl

theorem after2_v22 (l : Fin 4096) : (StableHlo.after hostOps2 V (Proc.devRef .tc main_v22) : IVec S4096x1 1) (ix2 l 0)
    = Scalar.cmpi .sge ((V (Proc.devRef .tc main_v18) : IVec S32x128 32) (ix2 ⟨l.val / 128, by omega⟩ ⟨l.val % 128, by omega⟩)) 0#32 := by
  after_reads_at
  rfl

theorem after2_v31 : (StableHlo.after hostOps2 V (Proc.devRef .tc main_v31) : FVec Ideal S4096x64 .f32)
    = Host.gather gather_S40000x64_S4096x1_S4096x64_1_0_n_n_0_1_164 (V (Proc.devRef .tc main_v4) : FVec Ideal S40000x64 .f32)
        (StableHlo.after hostOps2 V (Proc.devRef .tc main_v30) : IVec S4096x1 32) := by
  after_reads_simp

theorem after2_cst : (StableHlo.after hostOps2 V (Proc.devRef .tc main_cst) : FVec Ideal S_ .f32) = constant (F := Ideal) S_ .f32 0x00000000#32 := by
  after_reads_simp

theorem after21_v32 (l : Fin 4096) (k : Fin 64) : (StableHlo.after hostOps2_1 V (Proc.devRef .tc main_v32) : FVec Ideal S4096x64 .f32) (ix2 l k)
    = Scalar.select ((V (Proc.devRef .tc main_v22) : IVec S4096x1 1) (ix2 l 0)) ((V (Proc.devRef .tc main_v31) : FVec Ideal S4096x64 .f32) (ix2 l k))
      ((V (Proc.devRef .tc main_cst) : FVec Ideal S_ .f32) ix0) := by
  after_reads_at
  rfl

theorem after5_v87 (o : Fin 64) (y x : Fin 200) (z : Fin 16) : (StableHlo.after hostOps5 V (Proc.devRef .tc main_v87) : FVec Ideal S1x64x200x200x16 .f32) (ix5 0 o y x z)
    = (V (Proc.devRef .tc main_v86) : FVec Ideal S64x640000 .f32) (ix2 o ⟨y.val * 3200 + x.val * 16 + z.val, by omega⟩) := by
  after_reads_at

end Cert.KernelIdeal.Hand

end
-- ==== Proof.Consts.lean ====
/- The float constants of the two programs as real numbers. -/
module

public import Idealize.ShloMosaic.Lib.IdealHost

@[expose] public section

noncomputable section

namespace Cert.KernelIdeal.Hand

open Idealize.ShloMosaic

theorem ofBits_two : Ideal.ofBits .f32 0x40000000#32 = ((2 : ℝ) : EReal) := by
  simp [Ideal.ofBits, Ideal.ieee, -EReal.coe_mul]; norm_num

theorem ofBits_count : Ideal.ofBits .f32 0x491C4000#32 = ((640000 : ℝ) : EReal) := by
  simp [Ideal.ofBits, Ideal.ieee, -EReal.coe_mul]; norm_num

/-- The real number the word of `1e-5` denotes. -/
def eps : ℝ := 10995116 / 2 ^ 40

theorem eps_pos : 0 < eps := by unfold eps; norm_num

theorem ofBits_eps : Ideal.ofBits .f32 0x3727C5AC#32 = ((eps : ℝ) : EReal) := by
  unfold eps
  simp [Ideal.ofBits, Ideal.ieee, -EReal.coe_mul]; norm_num

end Cert.KernelIdeal.Hand

end
-- ==== Proof.HostB.lean ====
/- What the host operations before the output pass leave: the mean, the variance and the scale of each channel, and the affine map made of them. -/
module

public import proofs.«01_k».proof.Proof.Run
public import proofs.«01_k».proof.Proof.Consts
public import Idealize.ShloMosaic.Lib.Pipeline.ValueKit
public import Idealize.ShloMosaic.Lib.Pointwise
public import Idealize.ShloMosaic.Lib.IdealHost
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.SL.Sem

/-- The dense half's sum over all places. -/
def sumA (wb : FVec Ideal S64x64 .f32) (sx : FVec Ideal S64x1 .f32) : FVec Ideal S64 .f32 :=
  Host.dotGeneral dot_S64x64_S64_S64_1_0_0_n_n_n (some .fp32) wb (shapeCast _ sx shapeCasts_S64x1_S64)

/-- The mean of the convolution. -/
def meanV (wb : FVec Ideal S64x64 .f32) (sx c1 : FVec Ideal S64x1 .f32) (bc : FVec Ideal S64 .f32) : FVec Ideal S64 .f32 :=
  Host.divf (addf (addf (sumA wb sx) (mulf (broadcastInDim S64 ![] bcast_S_S64 (constant S_ .f32 0x491C4000#32)) bc)) (shapeCast _ c1 shapeCasts_S64x1_S64))
    (broadcastInDim S64 ![] bcast_S_S64 (constant S_ .f32 0x491C4000#32))

/-- The mean of the convolution's square. -/
def sqV (wb g : FVec Ideal S64x64 .f32) (sx c2 : FVec Ideal S64x1 .f32) (bc : FVec Ideal S64 .f32) : FVec Ideal S64 .f32 :=
  Host.divf (addf (addf (addf (Host.dotGeneral dot_S64x64_S64x64_S64_1_0_n_n_0_1 (some .fp32) wb (Host.dotGeneral dot_S64x64_S64x64_S64x64_0_1_1_0_n_n (some .fp32) g wb))
      (mulf (mulf (broadcastInDim S64 ![] bcast_S_S64 (constant S_ .f32 0x40000000#32)) bc) (sumA wb sx)))
      (mulf (mulf (broadcastInDim S64 ![] bcast_S_S64 (constant S_ .f32 0x491C4000#32)) bc) bc)) (shapeCast _ c2 shapeCasts_S64x1_S64))
    (broadcastInDim S64 ![] bcast_S_S64 (constant S_ .f32 0x491C4000#32))

/-- The scale of each channel, from the mean and the mean square. -/
def scaleV (mean sq ga : FVec Ideal S64 .f32) : FVec Ideal S64 .f32 :=
  mulf ga (Host.rsqrt (addf (subf sq (mulf mean mean)) (broadcastInDim S64 ![] bcast_S_S64 (constant S_ .f32 0x3727C5AC#32))))

/-- The matrix of the output pass. -/
def matV (s : FVec Ideal S64 .f32) (wb : FVec Ideal S64x64 .f32) : FVec Ideal S64x64 .f32 :=
  addf (mulf (broadcastInDim S64x64 ![0, 1] bcast_S64x1_S64x64_0_1 (broadcastInDim S64x1 ![0] bcast_S64_S64x1_0 s)) wb)
    (uitofp .f32 (cmpi .eq (addi (iotaInDim S64x64 32 0) (broadcastInDim S64x64 ![] bcast_S_S64x64 (constantI S_ 32 0#32))) (iotaInDim S64x64 32 1)))

/-- The shift of the output pass. -/
def shiftV (s mean bc be : FVec Ideal S64 .f32) : FVec Ideal S64x1 .f32 :=
  shapeCast _ (addf (mulf s (subf bc mean)) be) shapeCasts_S64_S64x1

/-- The corner's part of the output pass. -/
def cornV (s : FVec Ideal S64 .f32) (b : FVec Ideal S64x4096 .f32) : FVec Ideal S16x64x256 .f32 :=
  transpose S16x64x256 [1, 0, 2] (shapeCast S64x16x256 (mulf (broadcastInDim S64x4096 ![0, 1] bcast_S64x1_S64x4096_0_1 (broadcastInDim S64x1 ![0] bcast_S64_S64x1_0 s)) b) shapeCasts_S64x4096_S64x16x256)
    transposes_S64x16x256_S16x64x256_1_0_2

variable (V : Valuation τ sig (Elt Ideal))

/-- The mean over the buffers' contents. -/
abbrev meanOf : FVec Ideal S64 .f32 := meanV (V (Proc.devRef .tc main_v0)) (V (Proc.devRef .tc main_v37_1)) (V (Proc.devRef .tc main_v36_1)) (V (Proc.devRef .tc main_arg8))
/-- The mean square over the buffers' contents. -/
abbrev sqOf : FVec Ideal S64 .f32 := sqV (V (Proc.devRef .tc main_v0)) (V (Proc.devRef .tc main_v37_0)) (V (Proc.devRef .tc main_v37_1)) (V (Proc.devRef .tc main_v36_2)) (V (Proc.devRef .tc main_arg8))
/-- The scale over the buffers' contents. -/
abbrev scaleOf : FVec Ideal S64 .f32 := scaleV (meanOf V) (sqOf V) (V (Proc.devRef .tc main_arg9))

theorem after4_v76 : (StableHlo.after hostOps4 V (Proc.devRef .tc main_v76) : FVec Ideal S64x64 .f32) = matV (scaleOf V) (V (Proc.devRef .tc main_v0)) := by
  after_reads_simp
  rfl

theorem after4_v85 : (StableHlo.after hostOps4 V (Proc.devRef .tc main_v85) : FVec Ideal S64x1 .f32)
    = shiftV (scaleOf V) (meanOf V) (V (Proc.devRef .tc main_arg8)) (V (Proc.devRef .tc main_arg10)) := by
  after_reads_simp
  rfl

theorem after4_v84 : (StableHlo.after hostOps4 V (Proc.devRef .tc main_v84) : FVec Ideal S16x64x256 .f32)
    = cornV (scaleOf V) (V (Proc.devRef .tc main_v36_0)) := by
  after_reads_simp
  rfl

theorem sumA_at (wb : FVec Ideal S64x64 .f32) (sx : FVec Ideal S64x1 .f32) (o : Fin 64) :
    sumA wb sx (ix1 o) = ∑ k : Fin 64, wb (ix2 o k) * sx (ix2 k 0) := by
  pointwise [sumA]

theorem meanV_at (wb : FVec Ideal S64x64 .f32) (sx c1 : FVec Ideal S64x1 .f32) (bc : FVec Ideal S64 .f32) (o : Fin 64) :
    meanV wb sx c1 bc (ix1 o) = Ideal.div (sumA wb sx (ix1 o) + Ideal.ofBits .f32 0x491C4000#32 * bc (ix1 o) + c1 (ix2 o 0)) (Ideal.ofBits .f32 0x491C4000#32) := by
  generalize hs : sumA wb sx = s
  pointwise [meanV, hs]

theorem sqV_at (wb g : FVec Ideal S64x64 .f32) (sx c2 : FVec Ideal S64x1 .f32) (bc : FVec Ideal S64 .f32) (o : Fin 64) :
    sqV wb g sx c2 bc (ix1 o) = Ideal.div ((∑ j : Fin 64, wb (ix2 o j) * ∑ i : Fin 64, g (ix2 i j) * wb (ix2 o i))
        + Ideal.ofBits .f32 0x40000000#32 * bc (ix1 o) * sumA wb sx (ix1 o) + Ideal.ofBits .f32 0x491C4000#32 * bc (ix1 o) * bc (ix1 o) + c2 (ix2 o 0)) (Ideal.ofBits .f32 0x491C4000#32) := by
  generalize hs : sumA wb sx = s
  pointwise [sqV, hs]

theorem scaleV_at (mean sq ga : FVec Ideal S64 .f32) (o : Fin 64) :
    scaleV mean sq ga (ix1 o) = ga (ix1 o) * Ideal.rsqrt (sq (ix1 o) - mean (ix1 o) * mean (ix1 o) + Ideal.ofBits .f32 0x3727C5AC#32) := by
  pointwise [scaleV]

theorem eye : ∀ o k : Fin 64, IntOp.cmpi .eq (IntOp.addi (BitVec.ofNat 32 o.val) 0#32) (BitVec.ofNat 32 k.val) = if o = k then 1#1 else 0#1 := by
  decide +kernel

theorem uitofp_one : (FloatOps.uitofp .f32 (1#1) : Ideal .f32) = (1 : EReal) := by
  show (((1#1 : BitVec 1).toNat : ℝ) : EReal) = 1
  norm_num

theorem uitofp_zero : (FloatOps.uitofp .f32 (0#1) : Ideal .f32) = (0 : EReal) := by
  show (((0#1 : BitVec 1).toNat : ℝ) : EReal) = 0
  norm_num

theorem matV_at (s : FVec Ideal S64 .f32) (wb : FVec Ideal S64x64 .f32) (o k : Fin 64) :
    matV s wb (ix2 o k) = s (ix1 o) * wb (ix2 o k) + (if o = k then 1 else 0 : EReal) := by
  pointwise [matV]
  rw [eye]
  by_cases h : o = k
  · rw [if_pos h, if_pos h, uitofp_one]
  · rw [if_neg h, if_neg h, uitofp_zero]

theorem shiftV_at (s mean bc be : FVec Ideal S64 .f32) (o : Fin 64) :
    shiftV s mean bc be (ix2 o 0) = s (ix1 o) * (bc (ix1 o) - mean (ix1 o)) + be (ix1 o) := by
  pointwise [shiftV]

theorem cornV_at (s : FVec Ideal S64 .f32) (b : FVec Ideal S64x4096 .f32) (i : Fin 16) (o : Fin 64) (q : Fin 256) :
    cornV s b (ix3 i o q) = s (ix1 o) * b (ix2 o ⟨i.val * 256 + q.val, by omega⟩) := by
  pointwise [cornV]

end Cert.KernelIdeal.Hand

end
-- ==== Proof.Value0.lean ====
module

public import proofs.«01_k».proof.Proof.Region0
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- One row of the perceptron's second layer: `relu (relu (p W1 + b1) W2 + b2)`. -/
def mlp (p : FVec Ideal S40000x68 .f32) (w1 : FVec Ideal S68x64 .f32) (b1 : FVec Ideal S1x64 .f32) (w2 : FVec Ideal S64x64 .f32)
    (b2 : FVec Ideal S1x64 .f32) : FVec Ideal S40000x64 .f32 := fun i =>
  max (∑ j : Fin 64, max (∑ k : Fin 68, p (ix2 (i 0) k) * w1 (ix2 k j) + b1 (ix2 0 j)) 0 * w2 (ix2 j (i 1)) + b2 (ix2 0 (i 1))) (0 : EReal)

variable (V : (c : Dev nD) → (b : Ref sig .tc) → Buf (Elt Ideal) ((c : Thread nD τ).loc b))

theorem idx0_0 : ∀ t : Fin cfg0.grid.N, win0_0.index t = ![t.val, 0] := by decide +kernel
theorem idx0_1 : ∀ t : Fin cfg0.grid.N, win0_1.index t = ![0, 0] := by decide +kernel
theorem idx0_2 : ∀ t : Fin cfg0.grid.N, win0_2.index t = ![0, 0] := by decide +kernel
theorem idx0_3 : ∀ t : Fin cfg0.grid.N, win0_3.index t = ![0, 0] := by decide +kernel
theorem idx0_4 : ∀ t : Fin cfg0.grid.N, win0_4.index t = ![0, 0] := by decide +kernel
theorem idx0_5 : ∀ t : Fin cfg0.grid.N, win0_5.index t = ![t.val, 0] := by decide +kernel

theorem value0 (c : Dev nD) :
    (dat0 V c).arrAt 5 cfg0.N = mlp (V c main_arg1) (V c main_arg3) (V c main_v2) (V c main_arg5) (V c main_v3) := by
  refine (dat0 V c).arrAt_eq_of_covers 5 _ (by decide +kernel) fun t hf y => ?_
  blk_simp
  rw [after0_5]
  frame_out
  idx_vars y
  pointwise [k0_pay1, mlp]
  blk_point [iblk0, idx0_0, idx0_1, idx0_2, idx0_3, idx0_4, idx0_5]

end Cert.KernelIdeal.Hand

end
-- ==== Proof.Value1.lean ====
module

public import proofs.«01_k».proof.Proof.Region1
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

theorem idx1_0 : ∀ t : Fin cfg1.grid.N, win1_0.index t = ![t.val, 0, 0] := by decide +kernel
theorem idx1_1 : ∀ t : Fin cfg1.grid.N, win1_1.index t = ![0, 0] := by decide +kernel
theorem last1_1 : ∀ t : Fin cfg1.N, (cfg1.win 1).flush t = true → t.val + 1 = cfg1.N := by decide +kernel

/-- The number of the last of the first `n` voxels whose cell is `cell`, or minus one. -/
def lastOf (cid : ℕ → BitVec 32) (cell : BitVec 32) : ℕ → BitVec 32
  | 0 => 4294967295#32
  | n + 1 => if cell = cid n then BitVec.ofNat 32 n else lastOf cid cell n

/-- Voxel `n`'s cell in the blocked list. -/
def cidAt (x : IVec S40x1x1000 32) (n : ℕ) : BitVec 32 := x (ix3 ⟨n / 1000 % 40, by omega⟩ 0 ⟨n % 1000, by omega⟩)

/-- The winner of every cell among the first `n` voxels. -/
def winner (x : IVec S40x1x1000 32) (n : ℕ) : IVec S32x128 32 := fun i =>
  lastOf (cidAt x) (BitVec.ofNat 32 ((i 0).val * 128 + (i 1).val)) n

theorem trips1 : k1_t1_loop.trips = 1000 := by decide

theorem cell_word (a b : ℕ) : IntOp.addi (IntOp.muli (BitVec.ofNat 32 a) 128#32) (BitVec.ofNat 32 b) = BitVec.ofNat 32 (a * 128 + b) := by
  rw [BitVec.ofNat_add, BitVec.ofNat_mul]; rfl

theorem voxel_word (a k : ℕ) :
    Scalar.addi (Scalar.muli (BitVec.ofNat 32 a) 1000#32) (Scf.iv 0#32 1#32 k) = BitVec.ofNat 32 (a * 1000 + k) := by
  rw [BitVec.ofNat_add, BitVec.ofNat_mul]
  have h : Scf.iv 0#32 1#32 k = BitVec.ofNat 32 k := by unfold Scf.iv; simp
  rw [h]; rfl

theorem select_eq_word {α : Type} (a b : BitVec 32) (x y : α) : Scalar.select (IntOp.cmpi .eq a b) x y = if a = b then x else y := by
  by_cases h : a = b
  · subst h; simp [Scalar.select, IntOp.cmpi]
  · have : (a == b) = false := by simpa using h
    simp [Scalar.select, IntOp.cmpi, this, h]

theorem pay1_apply (i : grid1.Coords) (k : Fin k1_t1_loop.trips) (v : BitVec 32) (w : IVec S32x128 32) (j : S32x128.Idx) :
    k1_pay2 (F := Ideal) i k v w j = if BitVec.ofNat 32 ((j 0).val * 128 + (j 1).val) = v then BitVec.ofNat 32 ((i 0).val * 1000 + k.val) else w j := by
  pointwise [k1_pay2]
  rw [cell_word, voxel_word, select_eq_word]

theorem mem_whole1 (y : S32x128.Idx) : y ∈ (Rect.unit (s := S32x128) ![0, 0] S32x128.size inb_S32x128_S32x128_0_0).set :=
  Rect.mem_set_unit.mpr fun a => by
    match a with
    | ⟨0, _⟩ => exact ⟨Nat.zero_le _, by rw [show (![0, 0] : Fin 2 → ℕ) ⟨0, by decide⟩ = 0 from rfl, Nat.zero_add]; exact (y 0).isLt⟩
    | ⟨1, _⟩ => exact ⟨Nat.zero_le _, by rw [show (![0, 0] : Fin 2 → ℕ) ⟨1, by decide⟩ = 0 from rfl, Nat.zero_add]; exact (y 1).isLt⟩

theorem trip1 (c : Dev nD) (i : grid1.Coords) (arg1 : Memref sig .tc .smem S1x1x1000 .i32) (harg1 : arg1.IsWhole)
    (arg2 : Memref sig .tc .vmem S32x128 .i32) (harg2 : arg2.IsWhole) (x : IVec S1x1x1000 32) (k : Fin k1_t1_loop.trips)
    (f : BufTy.Contents (Elt Ideal) arg2.view.ty) :
    tripL_k1_t1 (F := Ideal) Variants.none c none i arg1 harg1 arg2 harg2 (harg1.unread x) k f
      = [⟨Rect.unit (s := S32x128) ![0, 0] S32x128.size inb_S32x128_S32x128_0_0,
          k1_pay2 (F := Ideal) i k (x (ix3 0 0 (k.cast trips1))) (arg2.view.read (Elt Ideal) f)⟩] := by
  have hz2 : (![0, 0] : Fin 2 → ℕ) = fun _ => 0 := by decide
  unfold tripL_k1_t1 trip_k1_t1
  dsimp only
  try sl_unfold_words
  have hk : k.val < 1000 := Nat.lt_of_lt_of_eq k.isLt trips1
  have hv : (Scf.iv 0#32 1#32 k.val).toNat = k.val := by
    unfold Scf.iv; simp; omega
  rw [View.readAt_eq_ld, View.readAt_eq_ld, harg1.read_unread, View.ld_unit_zero hz2]
  congr 3
  show x _ = x _
  congr 1
  funext a
  refine Fin.ext ?_
  match a with
  | ⟨0, _⟩ => rfl
  | ⟨1, _⟩ => rfl
  | ⟨2, _⟩ => exact hv

section
variable (c : Dev nD) (i : grid1.Coords) (arg1 : Memref sig .tc .smem S1x1x1000 .i32) (harg1 : arg1.IsWhole)
    (arg2 : Memref sig .tc .vmem S32x128 .i32) (harg2 : arg2.IsWhole) (x : IVec S1x1x1000 32) (X : IVec S40x1x1000 32)
    (hx : ∀ k : Fin 1000, x (ix3 0 0 k) = cidAt X ((i 0).val * 1000 + k.val))
    (f : BufTy.Contents (Elt Ideal) arg2.view.ty)

include hx in
/-- One more trip: the buffer's contents advance by one voxel, whatever was written before the loop. -/
theorem pb1_step (L : List (View.Piece (Elt Ideal) S32x128 .i32)) (n : ℕ) (hn : n < 1000)
    (ih : arg2.view.read (Elt Ideal)
        (arg2.view.writes (Elt Ideal) f (pb_k1_t1 (F := Ideal) Variants.none c none i arg1 harg1 arg2 harg2 (harg1.unread x) f n))
      = winner X ((i 0).val * 1000 + n)) :
    View.canon (pb_k1_t1 (F := Ideal) Variants.none c none i arg1 harg1 arg2 harg2 (harg1.unread x) f (n + 1) ++ L)
      = winner X ((i 0).val * 1000 + (n + 1)) := by
  have h := pb_k1_t1_succ (F := Ideal) Variants.none c none i arg1 harg1 arg2 harg2 (harg1.unread x) f ⟨n, by rw [trips1]; omega⟩
  dsimp only at h
  rw [h, trip1, ih, List.singleton_append, List.cons_append, View.canon_cons_unit_lit _ _ _ (by decide)]
  funext j
  rw [pay1_apply, hx]
  rfl

include hx in
/-- What the loop's first `n` trips leave of the buffer, over contents `f`. -/
theorem pb1_read (hf : arg2.view.read (Elt Ideal) f = winner X ((i 0).val * 1000)) :
    ∀ n, n ≤ 1000 → arg2.view.read (Elt Ideal)
        (arg2.view.writes (Elt Ideal) f (pb_k1_t1 (F := Ideal) Variants.none c none i arg1 harg1 arg2 harg2 (harg1.unread x) f n))
      = winner X ((i 0).val * 1000 + n)
  | 0, _ => hf
  | n + 1, hn => by
    have ih := pb1_read hf n (by omega)
    have hc := pb1_step c i arg1 harg1 arg2 harg2 x X hx f [] n (by omega) ih
    rw [List.append_nil] at hc
    rw [← hc]
    refine View.read_writes_eq_canon _ _ _ fun y => ?_
    have h := pb_k1_t1_succ (F := Ideal) Variants.none c none i arg1 harg1 arg2 harg2 (harg1.unread x) f ⟨n, by rw [trips1]; omega⟩
    dsimp only at h
    rw [h, trip1]
    refine ⟨_, List.mem_append_left _ (List.mem_singleton_self _), ?_⟩
    exact mem_whole1 y

end

variable (V : (c : Dev nD) → (b : Ref sig .tc) → Buf (Elt Ideal) ((c : Thread nD τ).loc b))

theorem coords1 : ∀ t : Fin cfg1.grid.N, (grid1.coords t 0).val = t.val := by decide +kernel

theorem block1 (c : Dev nD) (t : Fin cfg1.N) (k : Fin 1000) :
    (iblk1 V c 0 t : IVec S1x1x1000 32) (ix3 0 0 k) = cidAt (V c main_v17) ((grid1.coords t 0).val * 1000 + k.val) := by
  have e := coords1 t
  have ht : t.val < 40 := t.isLt
  unfold cidAt
  rw [e]
  have e1 : (⟨(t.val * 1000 + k.val) / 1000 % 40, by omega⟩ : Fin 40) = ⟨t.val, ht⟩ := Fin.ext (by show (t.val * 1000 + k.val) / 1000 % 40 = t.val; omega)
  have e2 : (⟨(t.val * 1000 + k.val) % 1000, by omega⟩ : Fin 1000) = k := Fin.ext (by show (t.val * 1000 + k.val) % 1000 = k.val; omega)
  rw [e1, e2]
  blk_ext [iblk1, idx1_0]

theorem trips1' : Scf.trips (0#32) (Scalar.addi 0#32 1000#32) 1#32 = 999 + 1 := by decide

/-- The set-up write leaves the empty table. -/
theorem init1 (arg2 : Memref sig .tc .vmem S32x128 .i32) (f : BufTy.Contents (Elt Ideal) arg2.view.ty) (X : IVec S40x1x1000 32) :
    arg2.view.read (Elt Ideal) (arg2.view.writes (Elt Ideal) f
      [⟨Rect.unit (s := S32x128) ![0, 0] S32x128.size inb_S32x128_S32x128_0_0, k1_pay1⟩]) = winner X 0 := by
  have hcov : ∀ y : S32x128.Idx, ∃ p ∈ ([⟨Rect.unit (s := S32x128) ![0, 0] S32x128.size inb_S32x128_S32x128_0_0, k1_pay1⟩]
      : List (View.Piece (Elt Ideal) S32x128 .i32)), y ∈ p.1.set :=
    fun y => ⟨⟨Rect.unit (s := S32x128) ![0, 0] S32x128.size inb_S32x128_S32x128_0_0, k1_pay1⟩, List.mem_singleton_self _, mem_whole1 y⟩
  refine (View.read_writes_eq_canon arg2.view f _ hcov).trans ?_
  rw [View.canon_cons_unit_lit _ _ _ (by decide)]
  funext j
  rfl

theorem outs1_A (c : Dev nD) (t : Fin cfg1.N) (h0 : t.val % 40 = 0) (ht : t.val = 0) :
    outsAt1 V c t.val t.isLt = winner (V c main_v17) 1000 := by
  have hc := coords1 t
  rw [ht] at hc
  have hf : (ms1_1 t).view.read (Elt Ideal) ((ms1_1 t).view.writes (Elt Ideal) (ms1_1 t).view.junk
      [⟨Rect.unit (s := S32x128) ![0, 0] S32x128.size inb_S32x128_S32x128_0_0, k1_pay1⟩])
      = winner (V c main_v17) ((grid1.coords t 0).val * 1000) := by
    rw [hc]
    exact init1 _ _ _
  have hr := pb1_read c (grid1.coords t) (ms1_0 t) (hs1_0 t) (ms1_1 t) (hs1_1 t) (iblk1 V c 0 t) (V c main_v17) (block1 V c t) _ hf 999 (by omega)
  have hs := pb1_step c (grid1.coords t) (ms1_0 t) (hs1_0 t) (ms1_1 t) (hs1_1 t) (iblk1 V c 0 t) (V c main_v17) (block1 V c t) _
    [⟨Rect.unit (s := S32x128) ![0, 0] S32x128.size inb_S32x128_S32x128_0_0, k1_pay1⟩] 999 (by omega) hr
  rw [hc] at hs
  rw [outsAt1_A V c t h0]
  frame_out
  rw [trips1']
  exact hs

theorem outs1_B (c : Dev nD) (t : Fin cfg1.N) (h0 : ¬ t.val % 40 = 0)
    (ih : outsAt1 V c (t.val - 1) (Nat.lt_of_le_of_lt (Nat.sub_le _ _) t.isLt) = winner (V c main_v17) (t.val * 1000)) :
    outsAt1 V c t.val t.isLt = winner (V c main_v17) ((t.val + 1) * 1000) := by
  have hc := coords1 t
  have hf : (ms1_1 t).view.read (Elt Ideal) ((hs1_1 t).unread (outsAt1 V c (t.val - 1) (Nat.lt_of_le_of_lt (Nat.sub_le _ _) t.isLt)))
      = winner (V c main_v17) ((grid1.coords t 0).val * 1000) := by
    rw [Memref.IsWhole.read_unread, ih, hc]
  have hr := pb1_read c (grid1.coords t) (ms1_0 t) (hs1_0 t) (ms1_1 t) (hs1_1 t) (iblk1 V c 0 t) (V c main_v17) (block1 V c t) _ hf 999 (by omega)
  have hs := pb1_step c (grid1.coords t) (ms1_0 t) (hs1_0 t) (ms1_1 t) (hs1_1 t) (iblk1 V c 0 t) (V c main_v17) (block1 V c t) _
    [] 999 (by omega) hr
  rw [hc, List.append_nil, show t.val * 1000 + (999 + 1) = (t.val + 1) * 1000 by omega] at hs
  rw [outsAt1_B V c t h0]
  frame_out
  rw [trips1']
  exact hs

theorem outs1 (c : Dev nD) : ∀ (n : ℕ) (hn : n < cfg1.N), outsAt1 V c n hn = winner (V c main_v17) ((n + 1) * 1000)
  | 0, hn => outs1_A V c ⟨0, hn⟩ (Nat.zero_mod _) rfl
  | n + 1, hn => outs1_B V c ⟨n + 1, hn⟩ (by have h40 : n + 1 < 40 := hn; show ¬ (n + 1) % 40 = 0; omega) (outs1 c n (Nat.lt_of_succ_lt hn))

theorem value1 (c : Dev nD) : (dat1 V c).arrAt 1 cfg1.N = winner (V c main_v17) 40000 := by
  refine (dat1 V c).arrAt_eq_of_covers 1 _ (by decide +kernel) fun t hf y => ?_
  blk_simp
  have h39 : t.val + 1 = 40 := last1_1 t hf
  rw [after1_1, outs1, h39]
  blk_ext [idx1_1]

end Cert.KernelIdeal.Hand

end
-- ==== Proof.Value2.lean ====
module

public import proofs.«01_k».proof.Proof.Region2
public import Idealize.ShloMosaic.Lib.Pipeline.ValueKit
public import Idealize.ShloMosaic.Lib.Pointwise
public import Idealize.ShloMosaic.Lib.IdealHost
public import proofs.«01_k».proof.Proof.Consts

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The convolution's sparse half on the corner cells: `Ws Pᵀ`. -/
def cornB (p : FVec Ideal S4096x64 .f32) (ws : FVec Ideal S64x64 .f32) : FVec Ideal S64x4096 .f32 := fun i =>
  ((∑ k : Fin 64, ws (ix2 (i 0) k) * p (ix2 (i 1) k) : EReal) : EReal)

/-- The convolution's dense half on the corner cells; cell `l` is the voxel `(l / 256, l / 16 % 16, l % 16)`. -/
def cornA (x : FVec Ideal S64x200x200x16 .f32) (wb : FVec Ideal S64x64 .f32) (o : Fin 64) (l : Fin 4096) : EReal :=
  ∑ k : Fin 64, wb (ix2 o k) * x (ix4 k ⟨l.val / 256, by omega⟩ ⟨l.val / 16 % 16, by omega⟩ ⟨l.val % 16, by omega⟩)

/-- The sum of the sparse half over the corner. -/
def corn1 (p : FVec Ideal S4096x64 .f32) (ws : FVec Ideal S64x64 .f32) : FVec Ideal S64x1 .f32 := fun i =>
  ((∑ l : Fin 4096, cornB p ws (ix2 (i 0) l) : EReal) : EReal)

/-- What the sparse half adds to the sum of squares. -/
def corn2 (x : FVec Ideal S64x200x200x16 .f32) (p : FVec Ideal S4096x64 .f32) (wb ws : FVec Ideal S64x64 .f32)
    (b : FVec Ideal S64x1 .f32) : FVec Ideal S64x1 .f32 := fun i =>
  ((∑ l : Fin 4096, cornB p ws (ix2 (i 0) l) *
    (((2 : ℝ) : EReal) * cornA x wb (i 0) l + ((2 : ℝ) : EReal) * b (ix2 (i 0) 0) + cornB p ws (ix2 (i 0) l)) : EReal) : EReal)

variable (V : (c : Dev nD) → (b : Ref sig .tc) → Buf (Elt Ideal) ((c : Thread nD τ).loc b))

theorem idx2_0 : ∀ t : Fin cfg2.grid.N, win2_0.index t = ![0, 0, 0, 0] := by decide +kernel
theorem idx2_1 : ∀ t : Fin cfg2.grid.N, win2_1.index t = ![0, 0] := by decide +kernel
theorem idx2_2 : ∀ t : Fin cfg2.grid.N, win2_2.index t = ![0, 0] := by decide +kernel
theorem idx2_3 : ∀ t : Fin cfg2.grid.N, win2_3.index t = ![0, 0] := by decide +kernel
theorem idx2_4 : ∀ t : Fin cfg2.grid.N, win2_4.index t = ![0, 0] := by decide +kernel
theorem idx2_5 : ∀ t : Fin cfg2.grid.N, win2_5.index t = ![0, 0] := by decide +kernel
theorem idx2_6 : ∀ t : Fin cfg2.grid.N, win2_6.index t = ![0, 0] := by decide +kernel
theorem idx2_7 : ∀ t : Fin cfg2.grid.N, win2_7.index t = ![0, 0] := by decide +kernel

theorem X2_0_apply (c : Dev nD) (t : Fin cfg2.N) (j : S64x16x16x16.Idx) :
    X2_0 V c t j = (V c main_v33 : FVec Ideal S64x200x200x16 .f32) (ix4 (j 0) ⟨(j 1).val, by have : (j 1).val < 16 := (j 1).isLt; omega⟩
      ⟨(j 2).val, by have : (j 2).val < 16 := (j 2).isLt; omega⟩ (j 3)) := by
  unfold X2_0 Pipeline.Window.fill
  rw [dif_pos (moved2_0 t j)]
  blk_ext [iblk2, idx2_0]

theorem value2_5 (c : Dev nD) : (dat2 V c).arrAt 5 cfg2.N = cornB (V c main_v32) (V c main_v1) := by
  refine (dat2 V c).arrAt_eq_of_covers 5 _ (by decide +kernel) fun t hf y => ?_
  blk_simp
  rw [after2_5]
  frame_out
  idx_vars y
  pointwise [k2_pay1, cornB]
  blk_point [iblk2, idx2_0, idx2_1, idx2_2, idx2_3, idx2_4, idx2_5]

theorem value2_6 (c : Dev nD) : (dat2 V c).arrAt 6 cfg2.N = corn1 (V c main_v32) (V c main_v1) := by
  refine (dat2 V c).arrAt_eq_of_covers 6 _ (by decide +kernel) fun t hf y => ?_
  blk_simp
  rw [after2_6]
  frame_out
  idx_vars y
  pointwise [k2_pay1, k2_pay2, cornB, corn1]
  blk_point [iblk2, idx2_0, idx2_1, idx2_2, idx2_3, idx2_4, idx2_6]

theorem value2_7 (c : Dev nD) :
    (dat2 V c).arrAt 7 cfg2.N = corn2 (V c main_v33) (V c main_v32) (V c main_v0) (V c main_v1) (V c main_v35) := by
  refine (dat2 V c).arrAt_eq_of_covers 7 _ (by decide +kernel) fun t hf y => ?_
  blk_simp
  rw [after2_7]
  frame_out
  idx_vars y
  pointwise [k2_pay1, k2_pay3, cornB, cornA, corn2, ofBits_two]
  simp only [X2_0_apply]
  blk_point [iblk2, idx2_0, idx2_1, idx2_2, idx2_3, idx2_4, idx2_7]

end Cert.KernelIdeal.Hand

end
-- ==== Proof.Value3.lean ====
module

public import proofs.«01_k».proof.Proof.Region3
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The Gram matrix of the rows of `x`. -/
def gramG (x : FVec Ideal S64x640000 .f32) : FVec Ideal S64x64 .f32 := fun i =>
  ((∑ l : Fin 640000, x (ix2 (i 0) l) * x (ix2 (i 1) l) : EReal) : EReal)

/-- The row sums of `x`. -/
def gramS (x : FVec Ideal S64x640000 .f32) : FVec Ideal S64x1 .f32 := fun i =>
  ((∑ l : Fin 640000, x (ix2 (i 0) l) : EReal) : EReal)

variable (V : (c : Dev nD) → (b : Ref sig .tc) → Buf (Elt Ideal) ((c : Thread nD τ).loc b))

theorem idx3_0 : ∀ t : Fin cfg3.grid.N, win3_0.index t = ![0, t.val] := by decide +kernel
theorem idx3_1 : ∀ t : Fin cfg3.grid.N, win3_1.index t = ![0, 0] := by decide +kernel
theorem idx3_2 : ∀ t : Fin cfg3.grid.N, win3_2.index t = ![0, 0] := by decide +kernel
theorem last3_1 : ∀ t : Fin cfg3.N, (cfg3.win 1).flush t = true → t.val + 1 = cfg3.N := by decide +kernel
theorem last3_2 : ∀ t : Fin cfg3.N, (cfg3.win 2).flush t = true → t.val + 1 = cfg3.N := by decide +kernel

theorem zero3_1 (j) : k3_pay1 (F := Ideal) j = 0 := by pointwise [k3_pay1]
theorem zero3_2 (j) : k3_pay2 (F := Ideal) j = 0 := by pointwise [k3_pay2]
theorem add3_1 (x a j) : k3_pay4 (F := Ideal) x a j = a j + ∑ k : Fin 12800, x (ix2 (j 0) k) * x (ix2 (j 1) k) := by
  pointwise [k3_pay4, k3_pay3]
theorem add3_2 (x a j) : k3_pay5 (F := Ideal) x a j = a j + ∑ k : Fin 12800, x (ix2 (j 0) k) := by
  pointwise [k3_pay5, k3_pay3]

theorem value3_1 (c : Dev nD) : (dat3 V c).arrAt 1 cfg3.N = gramG (V c main_v34) := by
  refine (dat3 V c).arrAt_eq_of_covers 1 _ (by decide +kernel) fun t hf y => ?_
  blk_simp
  rw [after3_1, Pipeline.eq_sum_fin_of_reset_step_apply_last (fun n h => (outsAt3 V c n h).1) 50 (fun _ => 0) _
    (fun t h j => by rw [outsAt3_A V c t h]; frame_out; rw [add3_1, zero3_1])
    (fun t h j => by rw [outsAt3_B V c t h]; frame_out; rw [add3_1])
    (by decide) t (last3_1 t hf) _, zero_add]
  refine Fin.sum_mul_add_congr (S := 50) (n := 12800) (L := 640000) fun s k hl => ?_
  have e := idx3_0 s
  blk_point [iblk3, e, idx3_1]

theorem value3_2 (c : Dev nD) : (dat3 V c).arrAt 2 cfg3.N = gramS (V c main_v34) := by
  refine (dat3 V c).arrAt_eq_of_covers 2 _ (by decide +kernel) fun t hf y => ?_
  blk_simp
  rw [after3_2, Pipeline.eq_sum_fin_of_reset_step_apply_last (fun n h => (outsAt3 V c n h).2) 50 (fun _ => 0) _
    (fun t h j => by rw [outsAt3_A V c t h]; frame_out; rw [add3_2, zero3_2])
    (fun t h j => by rw [outsAt3_B V c t h]; frame_out; rw [add3_2])
    (by decide) t (last3_2 t hf) _, zero_add]
  refine Fin.sum_mul_add_congr (S := 50) (n := 12800) (L := 640000) fun s k hl => ?_
  have e := idx3_0 s
  blk_point [iblk3, e, idx3_2]

end Cert.KernelIdeal.Hand

end
-- ==== Proof.Value4.lean ====
module

public import proofs.«01_k».proof.Proof.Region4
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The normalised convolution at an output cell, before the corner's part: `M x + d`. -/
def outY (x : FVec Ideal S64x640000 .f32) (mm : FVec Ideal S64x64 .f32) (d : FVec Ideal S64x1 .f32) (o : Fin 64) (l : Fin 640000) : EReal :=
  ∑ k : Fin 64, mm (ix2 o k) * x (ix2 k l) + d (ix2 o 0)

/-- The output pass: `relu (M x + d)`, with the corner's part added on the first 256 lanes of a block of 3200 (times one on the
    first sixteen blocks, times zero on the others). -/
def outP (x : FVec Ideal S64x640000 .f32) (mm : FVec Ideal S64x64 .f32) (d : FVec Ideal S64x1 .f32) (sb : FVec Ideal S16x64x256 .f32) :
    FVec Ideal S64x640000 .f32 := fun i =>
  if (i 1).val % 3200 < 256 then
    max (outY x mm d (i 0) (i 1) + sb (ix3 ⟨min ((i 1).val / 3200) 15, by omega⟩ (i 0) ⟨(i 1).val % 3200 % 256, by omega⟩)
      * (if (i 1).val / 3200 < 16 then 1 else 0)) (0 : EReal)
  else max (outY x mm d (i 0) (i 1)) (0 : EReal)

variable (V : (c : Dev nD) → (b : Ref sig .tc) → Buf (Elt Ideal) ((c : Thread nD τ).loc b))

theorem idx4_0 : ∀ t : Fin cfg4.grid.N, win4_0.index t = ![0, t.val] := by decide +kernel
theorem idx4_1 : ∀ t : Fin cfg4.grid.N, win4_1.index t = ![0, 0] := by decide +kernel
theorem idx4_2 : ∀ t : Fin cfg4.grid.N, win4_2.index t = ![0, 0] := by decide +kernel
theorem idx4_3 : ∀ t : Fin cfg4.grid.N, win4_3.index t = ![min t.val 15, 0, 0] := by decide +kernel
theorem idx4_4 : ∀ t : Fin cfg4.grid.N, win4_4.index t = ![0, t.val] := by decide +kernel

theorem outP_lo (x : FVec Ideal S64x640000 .f32) (mm : FVec Ideal S64x64 .f32) (d : FVec Ideal S64x1 .f32) (sb : FVec Ideal S16x64x256 .f32)
    (i : S64x640000.Idx) (t : ℕ) (l : Fin 256) (h : (i 1).val = t * 3200 + l.val) :
    outP x mm d sb i = max (outY x mm d (i 0) (i 1) + sb (ix3 ⟨min t 15, by omega⟩ (i 0) l) * (if t < 16 then 1 else 0)) (0 : EReal) := by
  have hl := l.isLt
  have e1 : (i 1).val % 3200 < 256 := by omega
  have e2 : (i 1).val / 3200 = t := by omega
  have e3 : (⟨(i 1).val % 3200 % 256, by omega⟩ : Fin 256) = l := Fin.ext (by show (i 1).val % 3200 % 256 = l.val; omega)
  unfold outP
  rw [if_pos e1]
  simp only [e2, e3]

theorem outP_hi (x : FVec Ideal S64x640000 .f32) (mm : FVec Ideal S64x64 .f32) (d : FVec Ideal S64x1 .f32) (sb : FVec Ideal S16x64x256 .f32)
    (i : S64x640000.Idx) (h : ¬ (i 1).val % 3200 < 256) : outP x mm d sb i = max (outY x mm d (i 0) (i 1)) (0 : EReal) := by
  unfold outP
  rw [if_neg h]

theorem select_true {α : Type} (a b : α) : Scalar.select (1#1) a b = a := rfl
theorem select_false {α : Type} (a b : α) : Scalar.select (0#1) a b = b := rfl

theorem flag4 : ∀ t : Fin cfg4.grid.N, Scalar.cmpi .slt (BitVec.ofNat 32 (grid4.coords t 0).val) 16#32 = if t.val < 16 then 1#1 else 0#1 := by
  decide +kernel

theorem value4 (c : Dev nD) :
    (dat4 V c).arrAt 4 cfg4.N = outP (V c main_v34) (V c main_v76) (V c main_v85) (V c main_v84) := by
  refine (dat4 V c).arrAt_eq_of_covers 4 _ (by decide +kernel) fun t hf y => ?_
  blk_simp
  rw [after4_4]
  unfold outsAt4
  frame_out
  idx_vars y
  by_cases h : y1.val < 256
  · have e : (ix2 y0 y1 : S64x3200.Idx)
        = (Rect.unit (s := S64x3200) ![0, 0] ![64, 256] inb_S64x3200_S64x256_0_0).emb (ix2 y0 (⟨y1.val, h⟩ : Fin 256)) := by blk_ext
    refine (congrArg _ e).trans ((View.canon_cons_emb _ _ _ _).trans ?_)
    rw [outP_lo _ _ _ _ _ t.val ⟨y1.val, h⟩ (by blk_simp [idx4_4])]
    pointwise [k4_pay3, k4_pay1, outY, flag4]
    by_cases ht : t.val < 16
    · simp only [ht, if_true, mul_one, select_true]
      blk_point [iblk4, idx4_0, idx4_1, idx4_2, idx4_3, idx4_4]
    · simp only [ht, if_false, mul_zero, select_false]
      blk_point [iblk4, idx4_0, idx4_1, idx4_2, idx4_3, idx4_4]
  · refine (View.canon_cons_of_not_mem _ _ (by mem_blk; exact fun hm => h (by have := (hm 1).2; simpa using this))).trans ?_
    refine (congrFun (View.canon_cons_unit_lit _ _ _ (by decide)) _).trans ?_
    refine Eq.trans ?_ (outP_hi _ _ _ _ _ (by blk_simp [idx4_4]; omega)).symm
    pointwise [k4_pay2, k4_pay1, outY]
    blk_point [iblk4, idx4_0, idx4_1, idx4_2, idx4_3, idx4_4]

end Cert.KernelIdeal.Hand

end
-- ==== Proof.Last.lean ====
/- The last write to a cell: the program's table of last writers and the reference's scatter agree on it. -/
module

public import proofs.«01_k».proof.Proof.Value1
public import Idealize.ShloMosaic.Lib.Routing.OpsSet

@[expose] public section

set_option maxRecDepth 16384

noncomputable section

namespace Cert.KernelIdeal.Hand

open Idealize.ShloMosaic Idealize.ShloMosaic.LaneScatter

/-- The table's entry is the absent mark and nothing hits, or it is the number of the last hit. -/
theorem lastOf_cases {α : Type} (cid : ℕ → BitVec 32) (cell : BitVec 32) : ∀ n,
    (lastOf cid cell n = 4294967295#32 ∧ ∀ (val : ℕ → α) (fill : α), lastHit (fun i => cell = cid i) val fill n = fill)
    ∨ ∃ j, j < n ∧ lastOf cid cell n = BitVec.ofNat 32 j ∧ ∀ (val : ℕ → α) (fill : α), lastHit (fun i => cell = cid i) val fill n = val j
  | 0 => Or.inl ⟨rfl, fun _ _ => rfl⟩
  | n + 1 => by
    by_cases h : cell = cid n
    · refine Or.inr ⟨n, Nat.lt_succ_self n, ?_, fun val fill => ?_⟩
      · show (if cell = cid n then _ else _) = _
        rw [if_pos h]
      · show (if cell = cid n then _ else _) = _
        rw [if_pos h]
    · have e1 : lastOf cid cell (n + 1) = lastOf cid cell n := by
        show (if cell = cid n then _ else _) = _
        rw [if_neg h]
      have e2 : ∀ (val : ℕ → α) (fill : α), lastHit (fun i => cell = cid i) val fill (n + 1) = lastHit (fun i => cell = cid i) val fill n := fun val fill => by
        show (if cell = cid n then _ else _) = _
        rw [if_neg h]
      rcases lastOf_cases cid cell n with ⟨h1, h2⟩ | ⟨j, hj, h1, h2⟩
      · exact Or.inl ⟨e1.trans h1, fun val fill => (e2 val fill).trans (h2 val fill)⟩
      · exact Or.inr ⟨j, Nat.lt_succ_of_lt hj, e1.trans h1, fun val fill => (e2 val fill).trans (h2 val fill)⟩

theorem lastHit_congr {α : Type} {p q : ℕ → Prop} [DecidablePred p] [DecidablePred q] {u v : ℕ → α} {fill : α} : ∀ n,
    (∀ i, i < n → (p i ↔ q i)) → (∀ i, i < n → u i = v i) → lastHit p u fill n = lastHit q v fill n
  | 0, _, _ => rfl
  | n + 1, hp, hu => by
    have ih := lastHit_congr (fill := fill) n (fun i hi => hp i (Nat.lt_succ_of_lt hi)) (fun i hi => hu i (Nat.lt_succ_of_lt hi))
    show (if p n then u n else lastHit p u fill n) = if q n then v n else lastHit q v fill n
    rw [ih, hu n (Nat.lt_succ_self n)]
    by_cases h : p n
    · rw [if_pos h, if_pos ((hp n (Nat.lt_succ_self n)).mp h)]
    · rw [if_neg h, if_neg fun h' => h ((hp n (Nat.lt_succ_self n)).mpr h')]

theorem lastHit_none {α : Type} {p : ℕ → Prop} [DecidablePred p] {u : ℕ → α} {fill : α} : ∀ n, (∀ i, i < n → ¬ p i) → lastHit p u fill n = fill
  | 0, _ => rfl
  | n + 1, hp => by
    show (if p n then u n else lastHit p u fill n) = fill
    rw [if_neg (hp n (Nat.lt_succ_self n)), lastHit_none n fun i hi => hp i (Nat.lt_succ_of_lt hi)]

/-- A row of 64 elements written in order: the last write to element `k` of a place, over all rows, is the last row that names the place. -/
theorem lastHit_rows {α : Type} (p : ℕ → Prop) [DecidablePred p] (u : ℕ → α) (fill : α) (k : ℕ) (hk : k < 64) : ∀ n r, r ≤ 64 →
    lastHit (fun i => p (i / 64) ∧ i % 64 = k) (fun i => u (i / 64)) fill (n * 64 + r)
      = if k < r then lastHit p u fill (n + 1) else lastHit p u fill n
  | 0, 0, _ => rfl
  | n + 1, 0, _ => by
    have ih := lastHit_rows p u fill k hk n 64 le_rfl
    rw [if_pos hk] at ih
    rw [if_neg (Nat.not_lt_zero k), Nat.add_zero, ← ih, Nat.succ_mul]
  | n, r + 1, hr => by
    have ih := lastHit_rows p u fill k hk n r (by omega)
    have hd : (n * 64 + r) / 64 = n := by omega
    have hm : (n * 64 + r) % 64 = r := by omega
    show (if p ((n * 64 + r) / 64) ∧ (n * 64 + r) % 64 = k then u ((n * 64 + r) / 64) else lastHit _ _ fill (n * 64 + r)) = _
    rw [ih, hd, hm]
    have es : lastHit p u fill (n + 1) = if p n then u n else lastHit p u fill n := rfl
    by_cases hrk : r = k
    · subst hrk
      rw [if_neg (lt_irrefl r), if_pos (Nat.lt_succ_self r), es]
      by_cases hp : p n
      · rw [if_pos ⟨hp, rfl⟩, if_pos hp]
      · rw [if_neg fun h => hp h.1, if_neg hp]
    · rw [if_neg fun h => hrk h.2]
      by_cases hlt : k < r
      · rw [if_pos hlt, if_pos (Nat.lt_succ_of_lt hlt)]
      · rw [if_neg hlt, if_neg (by omega)]

end Cert.KernelIdeal.Hand

end
-- ==== Proof.LinkA.lean ====
/- The buffers the last kernel reads, over the arguments: the corner's features are those of the last point of each cell. -/
module

public import proofs.«01_k».proof.Proof.HostA
public import proofs.«01_k».proof.Proof.HostB
public import proofs.«01_k».proof.Proof.Value0
public import proofs.«01_k».proof.Proof.Value1
public import proofs.«01_k».proof.Proof.Value2
public import proofs.«01_k».proof.Proof.Value3
public import proofs.«01_k».proof.Proof.Value4
public import proofs.«01_k».proof.Proof.Last

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.LaneScatter

/-- The features of point `n`: the two dense layers. -/
def featAt (p : FVec Ideal S40000x68 .f32) (w1 : FVec Ideal S68x64 .f32) (b1 : FVec Ideal S64 .f32) (w2 : FVec Ideal S64x64 .f32) (b2 : FVec Ideal S64 .f32)
    (n : Fin 40000) (k : Fin 64) : EReal :=
  max (∑ j : Fin 64, max (∑ i : Fin 68, p (ix2 n i) * w1 (ix2 i j) + b1 (ix1 j)) 0 * w2 (ix2 j k) + b2 (ix1 k)) 0

theorem rowWord_small (j : ℕ) (hj : j < 40000) : rowWord (BitVec.ofNat 32 j) = BitVec.ofNat 32 j := by
  have ht : (BitVec.ofNat 32 j).toNat = j := by rw [BitVec.toNat_ofNat]; exact Nat.mod_eq_of_lt (by omega)
  unfold rowWord
  rw [Scalar.maxsi_zero_of_nonneg (by rw [ht]; omega)]
  exact Routing.wrap_of_lt _ _ (by rw [ht]; omega)

theorem sge_small (j : ℕ) (hj : j < 40000) : Scalar.cmpi .sge (BitVec.ofNat 32 j) 0#32 = 1#1 := by
  have ht : (BitVec.ofNat 32 j).toNat = j := by rw [BitVec.toNat_ofNat]; exact Nat.mod_eq_of_lt (by omega)
  exact (Scalar.nonneg_iff _).mpr (by rw [ht]; omega)

variable (m : (ℓ : Loc nD τ sig) → Buf (Elt Ideal) ℓ) (ρ : Dev nD → PrngReg) (c : Dev nD)

/-- The features the first kernel leaves. -/
theorem feat_at (n : Fin 40000) (k : Fin 64) : (W4 m ρ c (Proc.devRef .tc main_v4) : FVec Ideal S40000x64 .f32) (ix2 n k)
    = featAt (m ((c.tc : Thread nD τ).loc main_arg1)) (m ((c.tc : Thread nD τ).loc main_arg3)) (m ((c.tc : Thread nD τ).loc main_arg4))
        (m ((c.tc : Thread nD τ).loc main_arg5)) (m ((c.tc : Thread nD τ).loc main_arg6)) n k := by
  have e : W4 m ρ c (Proc.devRef .tc main_v4) = mlp (V1 m ρ c main_arg1) (V1 m ρ c main_arg3) (V1 m ρ c main_v2) (V1 m ρ c main_arg5) (V1 m ρ c main_v3) :=
    (W4_of_ne m ρ c main_v4 (by decide)).trans ((W3_of m ρ c main_v4 (by decide)).trans ((W2_arr m ρ c 5).trans (value0 (V1 m ρ) c)))
  have e1 : V1 m ρ c main_arg1 = m ((c.tc : Thread nD τ).loc main_arg1) := W1_args m ρ c main_arg1 (by decide)
  have e3 : V1 m ρ c main_arg3 = m ((c.tc : Thread nD τ).loc main_arg3) := W1_args m ρ c main_arg3 (by decide)
  have e5 : V1 m ρ c main_arg5 = m ((c.tc : Thread nD τ).loc main_arg5) := W1_args m ρ c main_arg5 (by decide)
  have b1 : ∀ j : Fin 64, (V1 m ρ c main_v2 : FVec Ideal S1x64 .f32) (ix2 0 j) = (m ((c.tc : Thread nD τ).loc main_arg4) : FVec Ideal S64 .f32) (ix1 j) :=
    fun j => after0_v2 (W0 m ρ c) j
  have b2 : ∀ j : Fin 64, (V1 m ρ c main_v3 : FVec Ideal S1x64 .f32) (ix2 0 j) = (m ((c.tc : Thread nD τ).loc main_arg6) : FVec Ideal S64 .f32) (ix1 j) :=
    fun j => after0_v3 (W0 m ρ c) j
  rw [e, e1, e3, e5]
  unfold mlp featAt
  refine congrArg₂ (fun u v : EReal => max u v) ?_ rfl
  refine congrArg₂ (fun u v : EReal => u + v) ?_ (b2 k)
  refine Finset.sum_congr rfl fun j _ => ?_
  refine congrArg₂ (fun u v : EReal => u * v) ?_ rfl
  refine congrArg₂ (fun u v : EReal => max u v) ?_ rfl
  exact congrArg₂ (fun u v : EReal => u + v) rfl (b1 j)

/-- The cell numbers the second kernel reads. -/
theorem cid_at (n : ℕ) : cidAt (V3 m ρ c main_v17) n = cellWord (m ((c.tc : Thread nD τ).loc main_arg2)) ⟨n % 40000, by omega⟩ := by
  have e : (W2 m ρ c (Proc.devRef .tc main_arg2)) = m ((c.tc : Thread nD τ).loc main_arg2) := W2_args m ρ c main_arg2 (by decide)
  unfold cidAt
  refine (after1_v17 (W2 m ρ c) ⟨n / 1000 % 40, by omega⟩ ⟨n % 1000, by omega⟩).trans ?_
  rw [e]
  exact congrArg _ (Fin.ext (by show n / 1000 % 40 * 1000 + n % 1000 = n % 40000; omega))

theorem winner_at (l : Fin 4096) : (W4 m ρ c (Proc.devRef .tc main_v18) : IVec S32x128 32) (ix2 ⟨l.val / 128, by omega⟩ ⟨l.val % 128, by omega⟩)
    = lastOf (cidAt (V3 m ρ c main_v17)) (BitVec.ofNat 32 l.val) 40000 := by
  have e : W4 m ρ c (Proc.devRef .tc main_v18) = winner (V3 m ρ c main_v17) 40000 := (W4_arr m ρ c 1).trans (value1 (V3 m ρ) c)
  rw [e]
  unfold winner
  refine congrArg (fun w => lastOf _ (BitVec.ofNat 32 w) 40000) ?_
  show l.val / 128 * 128 + l.val % 128 = l.val
  omega

/-- The corner's features: those of the last point of the cell, or zero. -/
theorem corner_at (l : Fin 4096) (k : Fin 64) : (W7 m ρ c (Proc.devRef .tc main_v32) : FVec Ideal S4096x64 .f32) (ix2 l k)
    = lastHit (fun n => BitVec.ofNat 32 l.val = cellWord (m ((c.tc : Thread nD τ).loc main_arg2)) ⟨n % 40000, by omega⟩)
        (fun n => featAt (m ((c.tc : Thread nD τ).loc main_arg1)) (m ((c.tc : Thread nD τ).loc main_arg3)) (m ((c.tc : Thread nD τ).loc main_arg4))
          (m ((c.tc : Thread nD τ).loc main_arg5)) (m ((c.tc : Thread nD τ).loc main_arg6)) ⟨n % 40000, by omega⟩ k) (0 : EReal) 40000 := by
  have e7 : W7 m ρ c (Proc.devRef .tc main_v32) = W6 m ρ c (Proc.devRef .tc main_v32) := W7_of m ρ c main_v32 (by decide)
  have e22 := (after2_v22 (W4 m ρ c) l).trans (congrArg (fun w => Scalar.cmpi .sge w 0#32) (winner_at m ρ c l))
  have e30 := (after2_v30 (W4 m ρ c) l).trans (congrArg rowWord (winner_at m ρ c l))
  have e31 := after2_v31 (W4 m ρ c)
  have ecst : (W5 m ρ c (Proc.devRef .tc main_cst) : FVec Ideal S_ .f32) ix0 = (0 : EReal) := by
    rw [show W5 m ρ c (Proc.devRef .tc main_cst) = _ from after2_cst (W4 m ρ c)]
    pointwise
  rw [e7]
  refine (after21_v32 (W5 m ρ c) l k).trans ?_
  rw [show (W5 m ρ c (Proc.devRef .tc main_v22) : IVec S4096x1 1) (ix2 l 0) = _ from e22, ecst]
  have hcid : ∀ n, n < 40000 → ((BitVec.ofNat 32 l.val = cellWord (m ((c.tc : Thread nD τ).loc main_arg2)) ⟨n % 40000, by omega⟩)
      ↔ BitVec.ofNat 32 l.val = cidAt (V3 m ρ c main_v17) n) := fun n _ => by rw [cid_at]
  rw [lastHit_congr 40000 hcid fun _ _ => rfl]
  rcases lastOf_cases (α := EReal) (cidAt (V3 m ρ c main_v17)) (BitVec.ofNat 32 l.val) 40000 with ⟨hw, hv⟩ | ⟨j, hj, hw, hv⟩
  · rw [hv, hw]
    rfl
  · rw [hv, hw, sge_small j hj]
    refine Eq.trans ?_ (feat_at m ρ c ⟨j % 40000, by omega⟩ k)
    show (W5 m ρ c (Proc.devRef .tc main_v31) : FVec Ideal S4096x64 .f32) (ix2 l k) = _
    rw [show W5 m ρ c (Proc.devRef .tc main_v31) = _ from e31]
    refine Routing.gather_row _ rfl rfl rfl rfl rfl _ _ l k ⟨j % 40000, by omega⟩ ?_ (by norm_num)
    refine e30.trans ?_
    rw [hw, rowWord_small j hj]
    exact congrArg _ (Nat.mod_eq_of_lt hj).symm

/-- The activations by channel and place. -/
theorem x_at (k : Fin 64) (p : Fin 640000) : (W7 m ρ c (Proc.devRef .tc main_v34) : FVec Ideal S64x640000 .f32) (ix2 k p)
    = (m ((c.tc : Thread nD τ).loc main_arg0) : FVec Ideal S1x64x200x200x16 .f32) (ix5 0 k ⟨p.val / 3200, by omega⟩ ⟨p.val / 16 % 200, by omega⟩ ⟨p.val % 16, by omega⟩) := by
  have e := W6_args m ρ c main_arg0 (by decide)
  refine (after22_v34 (W6 m ρ c) k p).trans ?_
  rw [e]

theorem x4_at (k : Fin 64) (y x : Fin 200) (z : Fin 16) : (W7 m ρ c (Proc.devRef .tc main_v33) : FVec Ideal S64x200x200x16 .f32) (ix4 k y x z)
    = (m ((c.tc : Thread nD τ).loc main_arg0) : FVec Ideal S1x64x200x200x16 .f32) (ix5 0 k y x z) := by
  have e := W6_args m ρ c main_arg0 (by decide)
  refine (after22_v33 (W6 m ρ c) k y x z).trans ?_
  rw [e]

theorem bias_at (o : Fin 64) : (W7 m ρ c (Proc.devRef .tc main_v35) : FVec Ideal S64x1 .f32) (ix2 o 0)
    = (m ((c.tc : Thread nD τ).loc main_arg8) : FVec Ideal S64 .f32) (ix1 o) := by
  have e := W6_args m ρ c main_arg8 (by decide)
  refine (after22_v35 (W6 m ρ c) o).trans ?_
  rw [e]

theorem keep_v0 : W7 m ρ c (Proc.devRef .tc main_v0) = W1 m ρ c (Proc.devRef .tc main_v0) :=
  (W7_of m ρ c main_v0 (by decide)).trans ((W6_of m ρ c main_v0 (by decide)).trans ((W5_of m ρ c main_v0 (by decide)).trans
    ((W4_of m ρ c main_v0 (by decide)).trans ((W3_of m ρ c main_v0 (by decide)).trans (W2_of m ρ c main_v0 (by decide))))))

theorem keep_v1 : W7 m ρ c (Proc.devRef .tc main_v1) = W1 m ρ c (Proc.devRef .tc main_v1) :=
  (W7_of m ρ c main_v1 (by decide)).trans ((W6_of m ρ c main_v1 (by decide)).trans ((W5_of m ρ c main_v1 (by decide)).trans
    ((W4_of m ρ c main_v1 (by decide)).trans ((W3_of m ρ c main_v1 (by decide)).trans (W2_of m ρ c main_v1 (by decide))))))

theorem wb_at (o k : Fin 64) : (W7 m ρ c (Proc.devRef .tc main_v0) : FVec Ideal S64x64 .f32) (ix2 o k)
    = (m ((c.tc : Thread nD τ).loc main_arg7) : FVec Ideal S64x128 .f32) (ix2 o ⟨k.val, by omega⟩) := by
  rw [keep_v0]
  exact after0_v0 (W0 m ρ c) o k

theorem ws_at (o k : Fin 64) : (W7 m ρ c (Proc.devRef .tc main_v1) : FVec Ideal S64x64 .f32) (ix2 o k)
    = (m ((c.tc : Thread nD τ).loc main_arg7) : FVec Ideal S64x128 .f32) (ix2 o ⟨64 + k.val, by omega⟩) := by
  rw [keep_v1]
  exact after0_v1 (W0 m ρ c) o k

end Cert.KernelIdeal.Hand

end
-- ==== Proof.LinkB.lean ====
/- The kernel's result buffer, as the output pass over what the fourth kernel's stretch leaves. -/
module

public import proofs.«01_k».proof.Proof.LinkA

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The mean the program computes. -/
def kMean : FVec Ideal S64 .f32 :=
  meanV (W7 m ρ c (Proc.devRef .tc main_v0)) (gramS (W7 m ρ c (Proc.devRef .tc main_v34))) (corn1 (W7 m ρ c (Proc.devRef .tc main_v32)) (W7 m ρ c (Proc.devRef .tc main_v1)))
    (m ((c.tc : Thread nD τ).loc main_arg8))

/-- The mean square the program computes. -/
def kSq : FVec Ideal S64 .f32 :=
  sqV (W7 m ρ c (Proc.devRef .tc main_v0)) (gramG (W7 m ρ c (Proc.devRef .tc main_v34))) (gramS (W7 m ρ c (Proc.devRef .tc main_v34)))
    (corn2 (W7 m ρ c (Proc.devRef .tc main_v33)) (W7 m ρ c (Proc.devRef .tc main_v32)) (W7 m ρ c (Proc.devRef .tc main_v0)) (W7 m ρ c (Proc.devRef .tc main_v1))
      (W7 m ρ c (Proc.devRef .tc main_v35))) (m ((c.tc : Thread nD τ).loc main_arg8))

/-- The scale the program computes. -/
def kScale : FVec Ideal S64 .f32 := scaleV (kMean m ρ c) (kSq m ρ c) (m ((c.tc : Thread nD τ).loc main_arg9))

theorem keep9_v0 : W9 m ρ c (Proc.devRef .tc main_v0) = W7 m ρ c (Proc.devRef .tc main_v0) :=
  (W9_of m ρ c main_v0 (by decide)).trans (W8_of m ρ c main_v0 (by decide))

theorem keep8_v34 : W8 m ρ c (Proc.devRef .tc main_v34) = W7 m ρ c (Proc.devRef .tc main_v34) := W8_of m ρ c main_v34 (by decide)

theorem keep10_v34 : W10 m ρ c (Proc.devRef .tc main_v34) = W7 m ρ c (Proc.devRef .tc main_v34) :=
  (W10_of m ρ c main_v34 (by decide)).trans ((W9_of m ρ c main_v34 (by decide)).trans (keep8_v34 m ρ c))

theorem v37_0_eq : W9 m ρ c (Proc.devRef .tc main_v37_0) = gramG (W7 m ρ c (Proc.devRef .tc main_v34)) :=
  ((W9_arr m ρ c 1).trans (value3_1 (V8 m ρ) c)).trans (congrArg gramG (keep8_v34 m ρ c))

theorem v37_1_eq : W9 m ρ c (Proc.devRef .tc main_v37_1) = gramS (W7 m ρ c (Proc.devRef .tc main_v34)) :=
  ((W9_arr m ρ c 2).trans (value3_2 (V8 m ρ) c)).trans (congrArg gramS (keep8_v34 m ρ c))

theorem v36_0_eq : W9 m ρ c (Proc.devRef .tc main_v36_0) = cornB (W7 m ρ c (Proc.devRef .tc main_v32)) (W7 m ρ c (Proc.devRef .tc main_v1)) :=
  (W9_of m ρ c main_v36_0 (by decide)).trans ((W8_arr m ρ c 5).trans (value2_5 (V7 m ρ) c))

theorem v36_1_eq : W9 m ρ c (Proc.devRef .tc main_v36_1) = corn1 (W7 m ρ c (Proc.devRef .tc main_v32)) (W7 m ρ c (Proc.devRef .tc main_v1)) :=
  (W9_of m ρ c main_v36_1 (by decide)).trans ((W8_arr m ρ c 6).trans (value2_6 (V7 m ρ) c))

theorem v36_2_eq : W9 m ρ c (Proc.devRef .tc main_v36_2) = corn2 (W7 m ρ c (Proc.devRef .tc main_v33)) (W7 m ρ c (Proc.devRef .tc main_v32))
    (W7 m ρ c (Proc.devRef .tc main_v0)) (W7 m ρ c (Proc.devRef .tc main_v1)) (W7 m ρ c (Proc.devRef .tc main_v35)) :=
  (W9_of m ρ c main_v36_2 (by decide)).trans ((W8_arr m ρ c 7).trans (value2_7 (V7 m ρ) c))

theorem meanOf_eq : meanOf (W9 m ρ c) = kMean m ρ c := by
  unfold kMean meanOf
  rw [keep9_v0, v37_1_eq, v36_1_eq, W9_args m ρ c main_arg8 (by decide)]

theorem sqOf_eq : sqOf (W9 m ρ c) = kSq m ρ c := by
  unfold kSq sqOf
  rw [keep9_v0, v37_0_eq, v37_1_eq, v36_2_eq, W9_args m ρ c main_arg8 (by decide)]

theorem scaleOf_eq : scaleOf (W9 m ρ c) = kScale m ρ c := by
  unfold kScale scaleOf
  rw [meanOf_eq, sqOf_eq, W9_args m ρ c main_arg9 (by decide)]

theorem v76_eq : W10 m ρ c (Proc.devRef .tc main_v76) = matV (kScale m ρ c) (W7 m ρ c (Proc.devRef .tc main_v0)) := by
  refine (after4_v76 (W9 m ρ c)).trans ?_
  rw [scaleOf_eq, keep9_v0]

theorem v85_eq : W10 m ρ c (Proc.devRef .tc main_v85) = shiftV (kScale m ρ c) (kMean m ρ c) (m ((c.tc : Thread nD τ).loc main_arg8)) (m ((c.tc : Thread nD τ).loc main_arg10)) := by
  refine (after4_v85 (W9 m ρ c)).trans ?_
  rw [scaleOf_eq, meanOf_eq, W9_args m ρ c main_arg8 (by decide), W9_args m ρ c main_arg10 (by decide)]

theorem v84_eq : W10 m ρ c (Proc.devRef .tc main_v84) = cornV (kScale m ρ c) (cornB (W7 m ρ c (Proc.devRef .tc main_v32)) (W7 m ρ c (Proc.devRef .tc main_v1))) := by
  refine (after4_v84 (W9 m ρ c)).trans ?_
  rw [scaleOf_eq, v36_0_eq]

theorem v86_eq : W11 m ρ c (Proc.devRef .tc main_v86) = outP (W7 m ρ c (Proc.devRef .tc main_v34)) (matV (kScale m ρ c) (W7 m ρ c (Proc.devRef .tc main_v0)))
    (shiftV (kScale m ρ c) (kMean m ρ c) (m ((c.tc : Thread nD τ).loc main_arg8)) (m ((c.tc : Thread nD τ).loc main_arg10)))
    (cornV (kScale m ρ c) (cornB (W7 m ρ c (Proc.devRef .tc main_v32)) (W7 m ρ c (Proc.devRef .tc main_v1)))) := by
  refine ((W11_arr m ρ c 4).trans (value4 (V10 m ρ) c)).trans ?_
  rw [show V10 m ρ c main_v34 = _ from keep10_v34 m ρ c, show V10 m ρ c main_v76 = _ from v76_eq m ρ c, show V10 m ρ c main_v85 = _ from v85_eq m ρ c,
    show V10 m ρ c main_v84 = _ from v84_eq m ρ c]

theorem v87_at (o : Fin 64) (p : Fin 640000) : (W12 m ρ c (Proc.devRef .tc main_v87) : FVec Ideal S1x64x200x200x16 .f32)
      (ix5 0 o ⟨p.val / 3200, by omega⟩ ⟨p.val / 16 % 200, by omega⟩ ⟨p.val % 16, by omega⟩)
    = (W11 m ρ c (Proc.devRef .tc main_v86) : FVec Ideal S64x640000 .f32) (ix2 o p) := by
  refine (after5_v87 (W11 m ρ c) o _ _ _).trans ?_
  refine congrArg (fun q => (W11 m ρ c (Proc.devRef .tc main_v86) : FVec Ideal S64x640000 .f32) (ix2 o q)) (Fin.ext ?_)
  show p.val / 3200 * 3200 + p.val / 16 % 200 * 16 + p.val % 16 = p.val
  omega

end Cert.KernelIdeal.Hand

end
-- ==== Proof.RefA.lean ====
/- The reference's result in stages: the point features, the grid they are written into, the convolution, its mean and variance, and the
   normalised output. -/
module

public import proofs.«01_k».proof.Proof.Gen.ReferenceIdeal.Run
public import proofs.«01_k».proof.Proof.Consts
public import Idealize.ShloMosaic.Lib.Pipeline.ValueKit
public import Idealize.ShloMosaic.Lib.Pointwise
public import Idealize.ShloMosaic.Lib.IdealHost
public import Idealize.ShloMosaic.Lib.Routing.OpsSet

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The features of each point: two layers, each with its bias and a relu. -/
def feats (p : FVec Ideal S40000x68 .f32) (w1 : FVec Ideal S68x64 .f32) (b1 : FVec Ideal S64 .f32) (w2 : FVec Ideal S64x64 .f32) (b2 : FVec Ideal S64 .f32) :
    FVec Ideal S40000x64 .f32 :=
  maximumf (addf (Host.dotGeneral dot_S40000x64_S64x64_S40000x64_1_0_0_1_n_n none
      (maximumf (addf (Host.dotGeneral dot_S40000x68_S68x64_S40000x64_1_0_0_1_n_n none p w1)
        (broadcastInDim S40000x64 ![0, 1] bcast_S1x64_S40000x64_0_1 (broadcastInDim S1x64 ![1] bcast_S64_S1x64_1 b1)))
        (broadcastInDim S40000x64 ![] bcast_S_S40000x64 (constant S_ .f32 0x00000000#32))) w2)
    (broadcastInDim S40000x64 ![0, 1] bcast_S1x64_S40000x64_0_1 (broadcastInDim S1x64 ![1] bcast_S64_S1x64_1 b2)))
    (broadcastInDim S40000x64 ![] bcast_S_S40000x64 (constant S_ .f32 0x00000000#32))

/-- Coordinate column `w` wrapped: a negative one counts from the end of an axis of extent `n`. -/
def wrapped (v : IVec S40000 32) (n : BitVec 32) : IVec S40000x1 32 :=
  broadcastInDim S40000x1 ![0] bcast_S40000_S40000x1_0 (select (cmpi .slt v (broadcastInDim S40000 ![] bcast_S_S40000 (constantI S_ 32 0#32)))
    (addi v (broadcastInDim S40000 ![] bcast_S_S40000 (constantI S_ 32 n))) v)

/-- The grid places the points name. -/
def places (co : IVec S40000x3 32) : IVec S40000x3 32 :=
  concatenate S40000x3 1
    [⟨S40000x1, wrapped (shapeCast _ (extractStridedSlice S40000x1 ![0, 0] co slices_S40000x3_S40000x1_0_0) shapeCasts_S40000x1_S40000) 200#32⟩,
     ⟨S40000x1, wrapped (shapeCast _ (extractStridedSlice S40000x1 ![0, 1] co slices_S40000x3_S40000x1_0_1) shapeCasts_S40000x1_S40000) 200#32⟩,
     ⟨S40000x1, wrapped (shapeCast _ (extractStridedSlice S40000x1 ![0, 2] co slices_S40000x3_S40000x1_0_2) shapeCasts_S40000x1_S40000) 16#32⟩]
    concatenates_S40000x1_S40000x1_S40000x1_S40000x3_d1

/-- The grid of features. -/
def vox (co : IVec S40000x3 32) (f : FVec Ideal S40000x64 .f32) : FVec Ideal S200x200x16x64 .f32 :=
  Host.scatter scatter_S200x200x16x64_S40000x3_S40000x64_1_012_012_1 (fun _ b => b)
    (broadcastInDim S200x200x16x64 ![] bcast_S_S200x200x16x64 (constant S_ .f32 0x00000000#32)) (places co) f

/-- The channels of the activations and of the grid, one after the other. -/
def both (bev : FVec Ideal S1x64x200x200x16 .f32) (g : FVec Ideal S200x200x16x64 .f32) : FVec Ideal S1x128x200x200x16 .f32 :=
  concatenate S1x128x200x200x16 1 [⟨S1x64x200x200x16, bev⟩, ⟨S1x64x200x200x16, transpose S1x64x200x200x16 [0, 4, 2, 1, 3]
    (broadcastInDim S1x200x200x16x64 ![1, 2, 3, 4] bcast_S200x200x16x64_S1x200x200x16x64_1_2_3_4 g) transposes_S1x200x200x16x64_S1x64x200x200x16_0_4_2_1_3⟩]
    concatenates_S1x64x200x200x16_S1x64x200x200x16_S1x128x200x200x16_d1

/-- A value per channel, spread over the places. -/
def spread (v : FVec Ideal S1x64x1x1x1 .f32) : FVec Ideal S1x64x200x200x16 .f32 :=
  broadcastInDim S1x64x200x200x16 ![0, 1, 2, 3, 4] bcast_S1x64x1x1x1_S1x64x200x200x16_0_1_2_3_4 v

/-- A vector of channels as a tensor. -/
def chan (v : FVec Ideal S64 .f32) : FVec Ideal S1x64x1x1x1 .f32 := broadcastInDim S1x64x1x1x1 ![1] bcast_S64_S1x64x1x1x1_1 v

/-- The convolution. -/
def conv (wc : FVec Ideal S64x128 .f32) (x : FVec Ideal S1x128x200x200x16 .f32) (bc : FVec Ideal S64 .f32) : FVec Ideal S1x64x200x200x16 .f32 :=
  addf (transpose S1x64x200x200x16 [1, 0, 2, 3, 4] (Host.dotGeneral dot_S64x128_S1x128x200x200x16_S64x1x200x200x16_1_1_0_0234_n_n none wc x)
    transposes_S64x1x200x200x16_S1x64x200x200x16_1_0_2_3_4) (spread (chan bc))

/-- The sum over the places. -/
def total (y : FVec Ideal S1x64x200x200x16 .f32) : FVec Ideal S64 .f32 :=
  Host.reduceAdd y (constant S_ .f32 0x00000000#32) reducesTo_S1x64x200x200x16_S64_d0_2_3_4 h_S_

/-- The mean of each channel. -/
def mean (y : FVec Ideal S1x64x200x200x16 .f32) : FVec Ideal S1x64x1x1x1 .f32 :=
  Host.divf (chan (total y)) (broadcastInDim S1x64x1x1x1 ![] bcast_S_S1x64x1x1x1 (constant S_ .f32 0x491C4000#32))

/-- The number of places, less the correction of zero. -/
def count : FVec Ideal S_ .f32 := subf (constant S_ .f32 0x491C4000#32) (sitofp .f32 (constantI S_ 32 0#32))

/-- The squared deviations. -/
def dev (y : FVec Ideal S1x64x200x200x16 .f32) : FVec Ideal S1x64x200x200x16 .f32 := mulf (subf y (spread (mean y))) (subf y (spread (mean y)))

/-- The variance of each channel. -/
def var (y : FVec Ideal S1x64x200x200x16 .f32) : FVec Ideal S1x64x1x1x1 .f32 :=
  select (broadcastInDim S1x64x1x1x1 ![] bcast_S_S1x64x1x1x1 (cmpf .ogt count (constant S_ .f32 0x00000000#32)))
    (Host.divf (chan (total (dev y))) (broadcastInDim S1x64x1x1x1 ![] bcast_S_S1x64x1x1x1 count))
    (broadcastInDim S1x64x1x1x1 ![] bcast_S_S1x64x1x1x1 (id (constant S_ .f32 0x7FC00000#32)))

/-- The output. -/
def out (y bev : FVec Ideal S1x64x200x200x16 .f32) (ga be : FVec Ideal S64 .f32) : FVec Ideal S1x64x200x200x16 .f32 :=
  maximumf (addf (addf (mulf (Host.divf (subf y (spread (mean y)))
      (spread (Host.sqrt (addf (var y) (broadcastInDim S1x64x1x1x1 ![] bcast_S_S1x64x1x1x1 (constant S_ .f32 0x3727C5AC#32)))))) (spread (chan ga))) (spread (chan be))) bev)
    (broadcastInDim S1x64x200x200x16 ![] bcast_S_S1x64x200x200x16 (constant S_ .f32 0x00000000#32))

section
variable (m : (ℓ : Loc nD τ sig) → Buf (Elt Ideal) ℓ) (c : Dev nD)

/-- The convolution over the arguments. -/
abbrev convOf : FVec Ideal S1x64x200x200x16 .f32 :=
  conv (m ((c.tc : Thread nD τ).loc main_arg7)) (both (m ((c.tc : Thread nD τ).loc main_arg0)) (vox (m ((c.tc : Thread nD τ).loc main_arg2))
    (feats (m ((c.tc : Thread nD τ).loc main_arg1)) (m ((c.tc : Thread nD τ).loc main_arg3)) (m ((c.tc : Thread nD τ).loc main_arg4)) (m ((c.tc : Thread nD τ).loc main_arg5))
      (m ((c.tc : Thread nD τ).loc main_arg6))))) (m ((c.tc : Thread nD τ).loc main_arg8))

theorem res_eq : Value.res_main_v65 m c
    = out (convOf m c) (m ((c.tc : Thread nD τ).loc main_arg0)) (m ((c.tc : Thread nD τ).loc main_arg9)) (m ((c.tc : Thread nD τ).loc main_arg10)) := by
  rfl

end

/-! ## The stages at an index -/

theorem feats_at (p : FVec Ideal S40000x68 .f32) (w1 : FVec Ideal S68x64 .f32) (b1 : FVec Ideal S64 .f32) (w2 : FVec Ideal S64x64 .f32) (b2 : FVec Ideal S64 .f32)
    (n : Fin 40000) (k : Fin 64) : feats p w1 b1 w2 b2 (ix2 n k)
      = max (∑ j : Fin 64, max (∑ i : Fin 68, p (ix2 n i) * w1 (ix2 i j) + b1 (ix1 j)) 0 * w2 (ix2 j k) + b2 (ix1 k)) 0 := by
  pointwise [feats]

theorem wrapped_at (v : IVec S40000 32) (a : BitVec 32) (n : Fin 40000) :
    wrapped v a (ix2 n 0) = Scalar.select (IntOp.cmpi .slt (v (ix1 n)) 0#32) (IntOp.addi (v (ix1 n)) a) (v (ix1 n)) := by
  pointwise [wrapped]

theorem places_at (co : IVec S40000x3 32) (n : Fin 40000) (q : Fin 3) (h : (co (ix2 n q)).toNat < 16) : places co (ix2 n q) = co (ix2 n q) := by
  have hw : ∀ a : BitVec 32, Scalar.select (IntOp.cmpi .slt (co (ix2 n q)) 0#32) a (co (ix2 n q)) = co (ix2 n q) :=
    fun a => Routing.wrap_of_lt _ a (by omega)
  match q with
  | ⟨0, _⟩ => pointwise [places, wrapped]; exact hw _
  | ⟨1, _⟩ => pointwise [places, wrapped]; exact hw _
  | ⟨2, _⟩ => pointwise [places, wrapped]; exact hw _

theorem both_lo (bev : FVec Ideal S1x64x200x200x16 .f32) (g : FVec Ideal S200x200x16x64 .f32) (k : Fin 64) (y x : Fin 200) (z : Fin 16) :
    both bev g (ix5 0 ⟨k.val, by omega⟩ y x z) = bev (ix5 0 k y x z) := by
  have hk := k.isLt
  pointwise [both]

theorem both_hi (bev : FVec Ideal S1x64x200x200x16 .f32) (g : FVec Ideal S200x200x16x64 .f32) (k : Fin 64) (y x : Fin 200) (z : Fin 16) :
    both bev g (ix5 0 ⟨64 + k.val, by omega⟩ y x z) = g (ix4 x y z k) := by
  have hk := k.isLt
  pointwise [both]

theorem conv_at (wc : FVec Ideal S64x128 .f32) (x : FVec Ideal S1x128x200x200x16 .f32) (bc : FVec Ideal S64 .f32) (o : Fin 64) (y x' : Fin 200) (z : Fin 16) :
    conv wc x bc (ix5 0 o y x' z) = ∑ k : Fin 128, wc (ix2 o k) * x (ix5 0 k y x' z) + bc (ix1 o) := by
  pointwise [conv, spread, chan]

theorem mean_at (y : FVec Ideal S1x64x200x200x16 .f32) (o : Fin 64) :
    mean y (ix5 0 o 0 0 0) = Ideal.div (total y (ix1 o)) (Ideal.ofBits .f32 0x491C4000#32) := by
  generalize ht : total y = t
  pointwise [mean, chan, ht]

theorem dev_at (y : FVec Ideal S1x64x200x200x16 .f32) (o : Fin 64) (a b : Fin 200) (z : Fin 16) :
    dev y (ix5 0 o a b z) = (y (ix5 0 o a b z) - mean y (ix5 0 o 0 0 0)) * (y (ix5 0 o a b z) - mean y (ix5 0 o 0 0 0)) := by
  generalize ht : mean y = t
  pointwise [dev, spread, ht]

theorem sitofp_zero : (FloatOps.sitofp .f32 (0#32) : Ideal .f32) = (0 : EReal) := by
  show (((0#32 : BitVec 32).toInt : ℝ) : EReal) = 0
  norm_num

/-- The index of channel `o` at place `p`. -/
def pos (o : Fin 64) (p : Fin 640000) : S1x64x200x200x16.Idx := ix5 0 o ⟨p.val / 3200, by omega⟩ ⟨p.val / 16 % 200, by omega⟩ ⟨p.val % 16, by omega⟩

theorem reduces : S1x64x200x200x16.ReducesTo [0, 2, 3, 4] S64 := reducesTo_S1x64x200x200x16_S64_d0_2_3_4

theorem pos_fiber (h : S1x64x200x200x16.ReducesTo [0, 2, 3, 4] S64) (o : Fin 64) (i : S1x64x200x200x16.Idx) : h.drop i = ix1 o ↔ ∃ p, pos o p = i := by
  constructor
  · intro e
    have e1 : (i 1).val = o.val := congrArg Fin.val (congrFun e 0)
    have h0 : (i 0).val < 1 := (i 0).isLt
    have h2 : (i 2).val < 200 := (i 2).isLt
    have h3 : (i 3).val < 200 := (i 3).isLt
    have h4 : (i 4).val < 16 := (i 4).isLt
    refine ⟨⟨(i 2).val * 3200 + (i 3).val * 16 + (i 4).val, by omega⟩, funext fun a => Fin.ext ?_⟩
    match a with
    | ⟨0, _⟩ => show 0 = (i 0).val; omega
    | ⟨1, _⟩ => exact e1.symm
    | ⟨2, _⟩ => show ((i 2).val * 3200 + (i 3).val * 16 + (i 4).val) / 3200 = (i 2).val; omega
    | ⟨3, _⟩ => show ((i 2).val * 3200 + (i 3).val * 16 + (i 4).val) / 16 % 200 = (i 3).val; omega
    | ⟨4, _⟩ => show ((i 2).val * 3200 + (i 3).val * 16 + (i 4).val) % 16 = (i 4).val; omega
  · rintro ⟨p, rfl⟩
    funext b
    match b with
    | ⟨0, _⟩ => exact Fin.ext rfl

theorem pos_inj (o : Fin 64) (p q : Fin 640000) (e : pos o p = pos o q) : p = q := by
  have e2 : p.val / 3200 = q.val / 3200 := congrArg Fin.val (congrFun e 2)
  have e3 : p.val / 16 % 200 = q.val / 16 % 200 := congrArg Fin.val (congrFun e 3)
  have e4 : p.val % 16 = q.val % 16 := congrArg Fin.val (congrFun e 4)
  exact Fin.ext (by omega)

theorem total_at (y : FVec Ideal S1x64x200x200x16 .f32) (o : Fin 64) : total y (ix1 o) = ∑ p : Fin 640000, (y (pos o p) : EReal) := by
  unfold total
  rw [ValueIdx.hostReduceAdd_apply]
  unfold Ideal.hostReduceAdd
  rw [Finset.sum_filter_eq_sum_of_fiber _ (pos o) (pos_inj o) (pos_fiber _ o) y]
  have hz : (constant S_ .f32 0x00000000#32 : FVec Ideal S_ .f32) (Shape.Idx.first h_S_) = (0 : EReal) := by pointwise
  rw [hz, zero_add]

theorem var_at (y : FVec Ideal S1x64x200x200x16 .f32) (o : Fin 64) :
    var y (ix5 0 o 0 0 0) = Ideal.div (total (dev y) (ix1 o)) (Ideal.ofBits .f32 0x491C4000#32) := by
  generalize ht : total (dev y) = t
  pointwise [var, chan, count, ht]
  rw [sitofp_zero, sub_zero, if_pos]
  rw [Cert.KernelIdeal.Hand.ofBits_count]
  exact EReal.coe_pos.mpr (by norm_num)

theorem out_at (y bev : FVec Ideal S1x64x200x200x16 .f32) (ga be : FVec Ideal S64 .f32) (o : Fin 64) (a b : Fin 200) (z : Fin 16) :
    out y bev ga be (ix5 0 o a b z)
      = max (Ideal.div (y (ix5 0 o a b z) - mean y (ix5 0 o 0 0 0)) (Ideal.sqrt (var y (ix5 0 o 0 0 0) + Ideal.ofBits .f32 0x3727C5AC#32)) * ga (ix1 o)
          + be (ix1 o) + bev (ix5 0 o a b z)) 0 := by
  generalize hm : mean y = m
  generalize hv : var y = v
  pointwise [out, spread, chan, hm, hv]

end Cert.ReferenceIdeal.Hand

end
-- ==== Proof.RefB.lean ====
/- The reference's grid at a place: the features of the last point that names it, zero if none does. -/
module

public import proofs.«01_k».proof.Proof.RefA
public import proofs.«01_k».proof.Proof.Last

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.LaneScatter

/-- Point `n` names the place `(x, y, z)`. -/
def names (co : IVec S40000x3 32) (x y z : ℕ) (n : ℕ) : Prop :=
  (co (ix2 ⟨n % 40000, by omega⟩ 0)).toNat = x ∧ (co (ix2 ⟨n % 40000, by omega⟩ 1)).toNat = y ∧ (co (ix2 ⟨n % 40000, by omega⟩ 2)).toNat = z

instance (co : IVec S40000x3 32) (x y z n : ℕ) : Decidable (names co x y z n) := inferInstanceAs (Decidable (_ ∧ _ ∧ _))

/-- A write of the scatter lands at the place its index row spells, in the column of its own. -/
theorem lands (idx : IVec S40000x3 32) (n : Fin 40000) (k' : Fin 64) (x y : Fin 200) (z : Fin 16) (k : Fin 64) :
    scatter_S200x200x16x64_S40000x3_S40000x64_1_012_012_1.resultIdx? (ix2 n k') idx = some (ix4 x y z k)
      ↔ ((idx (ix2 n 0)).toInt = x.val ∧ (idx (ix2 n 1)).toInt = y.val ∧ (idx (ix2 n 2)).toInt = z.val) ∧ k'.val = k.val := by
  have hs : ∀ q : Fin 3, scatter_S200x200x16x64_S40000x3_S40000x64_1_012_012_1.start (ix2 n k') idx q.castSucc = (idx (ix2 n q)).toInt := fun q => by
    unfold ScatterDims.start
    rw [dif_pos (by revert q; decide)]
    refine congrArg (fun i => (idx i).toInt) (funext fun b => Fin.ext ?_)
    match b, q with
    | ⟨0, _⟩, ⟨0, _⟩ => rfl
    | ⟨0, _⟩, ⟨1, _⟩ => rfl
    | ⟨0, _⟩, ⟨2, _⟩ => rfl
    | ⟨1, _⟩, ⟨0, _⟩ => rfl
    | ⟨1, _⟩, ⟨1, _⟩ => rfl
    | ⟨1, _⟩, ⟨2, _⟩ => rfl
  have hs3 : scatter_S200x200x16x64_S40000x3_S40000x64_1_012_012_1.start (ix2 n k') idx (3 : Fin 4) = 0 := by
    unfold ScatterDims.start
    rw [dif_neg (by decide)]
  have hw : ∀ q : Fin 3, scatter_S200x200x16x64_S40000x3_S40000x64_1_012_012_1.window (ix2 n k') q.castSucc = 0 := fun q => by
    unfold ScatterDims.window
    rw [dif_neg (by revert q; decide)]
  have hw3 : scatter_S200x200x16x64_S40000x3_S40000x64_1_012_012_1.window (ix2 n k') (3 : Fin 4) = k'.val := rfl
  rw [Routing.resultIdx?_eq_some]
  constructor
  · intro h
    have h0 := h (0 : Fin 4)
    have h1 := h (1 : Fin 4)
    have h2 := h (2 : Fin 4)
    have h3 := h (3 : Fin 4)
    have s0 := hs 0; have s1 := hs 1; have s2 := hs 2
    have w0 := hw 0; have w1 := hw 1; have w2 := hw 2
    refine ⟨⟨?_, ?_, ?_⟩, ?_⟩
    · rw [← s0]; refine Eq.trans ?_ h0; erw [w0]; simp
    · rw [← s1]; refine Eq.trans ?_ h1; erw [w1]; simp
    · rw [← s2]; refine Eq.trans ?_ h2; erw [w2]; simp
    · rw [hs3, hw3] at h3
      have h3' : (0 : ℤ) + (k'.val : ℤ) = (k.val : ℤ) := h3
      omega
  · rintro ⟨⟨e0, e1, e2⟩, e3⟩ a
    match a with
    | ⟨0, _⟩ => exact (congrArg₂ (fun (u : ℤ) (v : ℕ) => u + (v : ℤ)) ((hs 0).trans e0) (hw 0)).trans (Int.add_zero _)
    | ⟨1, _⟩ => exact (congrArg₂ (fun (u : ℤ) (v : ℕ) => u + (v : ℤ)) ((hs 1).trans e1) (hw 1)).trans (Int.add_zero _)
    | ⟨2, _⟩ => exact (congrArg₂ (fun (u : ℤ) (v : ℕ) => u + (v : ℤ)) ((hs 2).trans e2) (hw 2)).trans (Int.add_zero _)
    | ⟨3, _⟩ =>
      refine (congrArg₂ (fun (u : ℤ) (v : ℕ) => u + (v : ℤ)) hs3 hw3).trans ?_
      show (0 : ℤ) + (k'.val : ℤ) = (k.val : ℤ)
      omega

theorem toInt_small (w : BitVec 32) (h : w.toNat < 16) (x : ℕ) : w.toInt = (x : ℤ) ↔ w.toNat = x := by
  rw [BitVec.toInt_eq_toNat_of_lt (by omega)]
  omega

theorem numelU : S40000x64.numel = 39999 * 64 + 64 := by decide

theorem vox_at (co : IVec S40000x3 32) (hco : ∀ n q, (co (ix2 n q)).toNat < 16) (f : FVec Ideal S40000x64 .f32) (x y : Fin 200) (z : Fin 16) (k : Fin 64) :
    vox co f (ix4 x y z k) = lastHit (names co x.val y.val z.val) (fun n => (f (ix2 ⟨n % 40000, by omega⟩ k) : EReal)) (0 : EReal) 40000 := by
  unfold vox
  rw [Routing.scatter_at]
  have hz : (broadcastInDim S200x200x16x64 ![] bcast_S_S200x200x16x64 (constant S_ .f32 0x00000000#32) : FVec Ideal S200x200x16x64 .f32) (ix4 x y z k) = (0 : EReal) := by
    pointwise
  rw [hz]
  have hstep : ∀ (a : EReal) (e : Fin S40000x64.numel),
      (if scatter_S200x200x16x64_S40000x3_S40000x64_1_012_012_1.resultIdx? (S40000x64.rowMajor.symm e) (places co) = some (ix4 x y z k)
        then (f (S40000x64.rowMajor.symm e) : EReal) else a)
      = if names co x.val y.val z.val (e.val / 64) ∧ e.val % 64 = k.val then (f (ix2 ⟨e.val / 64 % 40000, by omega⟩ k) : EReal) else a := fun a e => by
    have he : e.val < 39999 * 64 + 64 := numelU ▸ e.isLt
    have hsy : S40000x64.rowMajor.symm e = ix2 (⟨e.val / 64, by omega⟩ : Fin 40000) (⟨e.val % 64, by omega⟩ : Fin 64) := Routing.symm22 e _ _
    rw [hsy]
    have hq : ∀ q : Fin 3, places co (ix2 (⟨e.val / 64, by omega⟩ : Fin 40000) q) = co (ix2 (⟨e.val / 64, by omega⟩ : Fin 40000) q) :=
      fun q => places_at co _ q (hco _ _)
    have hm : (⟨e.val / 64 % 40000, by omega⟩ : Fin 40000) = ⟨e.val / 64, by omega⟩ := Fin.ext (Nat.mod_eq_of_lt (by omega))
    have hiff : scatter_S200x200x16x64_S40000x3_S40000x64_1_012_012_1.resultIdx? (ix2 (⟨e.val / 64, by omega⟩ : Fin 40000) (⟨e.val % 64, by omega⟩ : Fin 64)) (places co)
        = some (ix4 x y z k) ↔ names co x.val y.val z.val (e.val / 64) ∧ e.val % 64 = k.val := by
      rw [lands, hq, hq, hq, toInt_small _ (hco _ _), toInt_small _ (hco _ _), toInt_small _ (hco _ _)]
      unfold names
      rw [hm]
    by_cases h : names co x.val y.val z.val (e.val / 64) ∧ e.val % 64 = k.val
    · rw [if_pos h, if_pos (hiff.mpr h), hm]
      exact congrArg (fun i => (f (ix2 _ i) : EReal)) (Fin.ext h.2)
    · rw [if_neg h, if_neg fun h' => h (hiff.mp h')]
  refine (congrArg (fun g => List.foldl g (0 : EReal) (List.finRange S40000x64.numel)) (funext fun a => funext fun e => hstep a e)).trans ?_
  refine (Routing.foldl_finRange_lastHit (fun e => names co x.val y.val z.val (e / 64) ∧ e % 64 = k.val)
    (fun e => (f (ix2 ⟨e / 64 % 40000, by omega⟩ k) : EReal)) (0 : EReal) S40000x64.numel).trans ?_
  rw [numelU]
  have := Cert.KernelIdeal.Hand.lastHit_rows (names co x.val y.val z.val) (fun n => (f (ix2 ⟨n % 40000, by omega⟩ k) : EReal)) (0 : EReal) k.val k.isLt 39999 64 le_rfl
  rw [if_pos k.isLt] at this
  exact this

end Cert.ReferenceIdeal.Hand

end
-- ==== Proof.Eqn.lean ====
/- The mathematics of the normalisation over the reals: the sum and the sum of squares of an affine image split into the parts that the
   program adds up, and the variance as the mean square less the square of the mean. -/
module

public import Idealize.ShloMosaic.PureOps.Ideal

@[expose] public section

noncomputable section

namespace Cert.Eqn

open Finset

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

section
variable {P K : Type} [Fintype P] [Fintype K]

/-- The dense half of the convolution: a weighted sum of channels at a place. -/
def dens (w : K → ℝ) (x : K → P → ℝ) (p : P) : ℝ := ∑ k, w k * x k p

theorem sum_dens (w : K → ℝ) (x : K → P → ℝ) : ∑ p, dens w x p = ∑ k, w k * ∑ p, x k p := by
  unfold dens
  rw [Finset.sum_comm]
  exact Finset.sum_congr rfl fun k _ => (Finset.mul_sum _ _ _).symm

theorem sum_split (w : K → ℝ) (x : K → P → ℝ) (B : P → ℝ) (b N : ℝ) (hN : N = Fintype.card P) :
    ∑ p, (dens w x p + B p + b) = (∑ k, w k * ∑ p, x k p) + N * b + ∑ p, B p := by
  rw [Finset.sum_add_distrib, Finset.sum_add_distrib, sum_dens, Finset.sum_const, Finset.card_univ, nsmul_eq_mul, hN]
  ring

theorem sq_dens (w : K → ℝ) (x : K → P → ℝ) :
    ∑ p, dens w x p * dens w x p = ∑ j, w j * ∑ i, (∑ p, x i p * x j p) * w i := by
  unfold dens
  have e : ∀ p, (∑ k, w k * x k p) * (∑ k, w k * x k p) = ∑ j, ∑ i, w j * (x i p * x j p * w i) := fun p => by
    rw [Finset.sum_mul]
    refine Finset.sum_congr rfl fun j _ => ?_
    rw [Finset.mul_sum]
    exact Finset.sum_congr rfl fun i _ => by ring
  rw [Finset.sum_congr rfl fun p _ => e p, Finset.sum_comm]
  refine Finset.sum_congr rfl fun j _ => ?_
  rw [Finset.sum_comm, Finset.mul_sum]
  refine Finset.sum_congr rfl fun i _ => ?_
  rw [← Finset.mul_sum, Finset.sum_mul]

theorem sq_split (w : K → ℝ) (x : K → P → ℝ) (B : P → ℝ) (b N : ℝ) (hN : N = Fintype.card P) :
    ∑ p, (dens w x p + B p + b) * (dens w x p + B p + b)
      = ((∑ j, w j * ∑ i, (∑ p, x i p * x j p) * w i) + 2 * b * (∑ k, w k * ∑ p, x k p)) + N * b * b
        + ∑ p, B p * (2 * dens w x p + 2 * b + B p) := by
  have e : ∀ p, (dens w x p + B p + b) * (dens w x p + B p + b)
      = dens w x p * dens w x p + 2 * b * dens w x p + b * b + B p * (2 * dens w x p + 2 * b + B p) := fun p => by ring
  rw [Finset.sum_congr rfl fun p _ => e p, Finset.sum_add_distrib, Finset.sum_add_distrib, Finset.sum_add_distrib, sq_dens, ← Finset.mul_sum,
    sum_dens, Finset.sum_const, Finset.card_univ, nsmul_eq_mul, hN]
  ring

/-- The mean square less the square of the mean is the mean of the squared deviations. -/
theorem var_split (y : P → ℝ) (N m : ℝ) (hN : N = Fintype.card P) (h0 : N ≠ 0) (hm : m = (∑ p, y p) / N) :
    (∑ p, y p * y p) / N - m * m = (∑ p, (y p - m) * (y p - m)) / N := by
  have e : ∀ p, (y p - m) * (y p - m) = y p * y p - 2 * m * y p + m * m := fun p => by ring
  have hs : ∑ p, y p = m * N := by rw [hm]; field_simp
  rw [Finset.sum_congr rfl fun p _ => e p, Finset.sum_add_distrib, Finset.sum_sub_distrib, ← Finset.mul_sum, hs,
    Finset.sum_const, Finset.card_univ, nsmul_eq_mul, ← hN]
  field_simp
  ring

theorem var_nonneg (y : P → ℝ) (N m : ℝ) (h0 : 0 < N) : 0 ≤ (∑ p, (y p - m) * (y p - m)) / N :=
  div_nonneg (Finset.sum_nonneg fun p _ => mul_self_nonneg _) h0.le

end

/-! ## The corner: the first sixteen steps along each horizontal axis -/

/-- The place of a corner cell among the 640000 voxels. -/
def place (l : Fin 4096) : Fin 640000 := ⟨l.val / 256 * 3200 + l.val % 256, by omega⟩

/-- The corner cell of a place. -/
def cell (p : Fin 640000) : Fin 4096 := ⟨p.val / 3200 % 16 * 256 + p.val % 3200 % 256, by omega⟩

/-- Whether a place lies in the corner. -/
def inCorner (p : Fin 640000) : Prop := p.val / 3200 < 16 ∧ p.val % 3200 < 256

instance (p : Fin 640000) : Decidable (inCorner p) := inferInstanceAs (Decidable (_ ∧ _))

theorem inCorner_place (l : Fin 4096) : inCorner (place l) := by
  have hl := l.isLt
  constructor
  · show (l.val / 256 * 3200 + l.val % 256) / 3200 < 16; omega
  · show (l.val / 256 * 3200 + l.val % 256) % 3200 < 256; omega

theorem cell_place (l : Fin 4096) : cell (place l) = l := by
  have hl := l.isLt
  apply Fin.ext
  show (l.val / 256 * 3200 + l.val % 256) / 3200 % 16 * 256 + (l.val / 256 * 3200 + l.val % 256) % 3200 % 256 = l.val
  omega

theorem place_cell (p : Fin 640000) (h : inCorner p) : place (cell p) = p := by
  obtain ⟨h1, h2⟩ := h
  apply Fin.ext
  show (p.val / 3200 % 16 * 256 + p.val % 3200 % 256) / 256 * 3200 + (p.val / 3200 % 16 * 256 + p.val % 3200 % 256) % 256 = p.val
  omega

/-- A function on the corner, extended by zero. -/
def ext (f : Fin 4096 → ℝ) (p : Fin 640000) : ℝ := if inCorner p then f (cell p) else 0

theorem ext_place (f : Fin 4096 → ℝ) (l : Fin 4096) : ext f (place l) = f l := by
  unfold ext
  rw [if_pos (inCorner_place l), cell_place]

/-- A sum over all places of a quantity that vanishes off the corner is the sum over the corner. -/
theorem sum_corner (f : Fin 4096 → ℝ) (g : Fin 640000 → ℝ) : ∑ l, f l * g (place l) = ∑ p, ext f p * g p := by
  refine Fintype.sum_of_injective place (fun a b e => ?_) _ _ (fun p hp => ?_) fun l => by rw [ext_place]
  · rw [← cell_place a, ← cell_place b, e]
  · unfold ext
    rw [if_neg fun h => hp ⟨cell p, place_cell p h⟩, zero_mul]

end Cert.Eqn

end
-- ==== Proof.Equal.lean ====
/- The kernel's output and the reference's, both as one real expression of the activations, the weights and the corner's features. -/
module

public import proofs.«01_k».proof.Proof.HostB
public import proofs.«01_k».proof.Proof.Value2
public import proofs.«01_k».proof.Proof.Value3
public import proofs.«01_k».proof.Proof.Value4
public import proofs.«01_k».proof.Proof.RefA
public import proofs.«01_k».proof.Proof.Eqn

@[expose] public section

set_option maxRecDepth 16384

noncomputable section

namespace Cert.Eqn

open Idealize.ShloMosaic
open Cert.KernelIdeal.Hand (eps eps_pos ofBits_eps ofBits_count ofBits_two)

theorem div_coe (a b : ℝ) (hb : b ≠ 0) : Ideal.div (a : EReal) (b : EReal) = ((a / b : ℝ) : EReal) := by
  unfold Ideal.div
  rw [if_neg (fun h => hb (EReal.coe_eq_zero.mp h)), ← EReal.coe_inv, ← EReal.coe_mul, div_eq_mul_inv]

theorem rsqrt_coe (r : ℝ) (h : 0 < r) : Ideal.rsqrt (r : EReal) = (((√r)⁻¹ : ℝ) : EReal) := by
  show (if r < 0 then _ else if r = 0 then _ else _) = _
  rw [if_neg (not_lt.mpr h.le), if_neg h.ne']

theorem sqrt_coe (r : ℝ) (h : 0 < r) : Ideal.sqrt (r : EReal) = ((√r : ℝ) : EReal) := by
  show (if r < 0 then _ else _) = _
  rw [if_neg (not_lt.mpr h.le)]

/-- Three summands, the middle one any extended real. -/
theorem middle (a b c d : ℝ) (e : EReal) (h : a + b = c + d) : (a : EReal) + e + (b : EReal) = (c : EReal) + e + (d : EReal) := by
  rw [add_right_comm, ← EReal.coe_add, h, EReal.coe_add, add_right_comm]

theorem card_places : (640000 : ℝ) = Fintype.card (Fin 640000) := by
  rw [Fintype.card_fin]; norm_num

section
variable (X : Fin 64 → Fin 640000 → ℝ) (Wb Ws : Fin 64 → Fin 64 → ℝ) (P : Fin 4096 → Fin 64 → ℝ) (bc ga : Fin 64 → ℝ)

/-- The sparse half of the convolution on the corner. -/
def Bc (o : Fin 64) (l : Fin 4096) : ℝ := ∑ k, Ws o k * P l k

/-- The convolution. -/
def conv (o : Fin 64) (p : Fin 640000) : ℝ := dens (Wb o) X p + ext (Bc Ws P o) p + bc o

/-- Its mean over the places. -/
def mu (o : Fin 64) : ℝ := (∑ p, conv X Wb Ws P bc o p) / 640000

/-- Its variance. -/
def vr (o : Fin 64) : ℝ := (∑ p, (conv X Wb Ws P bc o p - mu X Wb Ws P bc o) * (conv X Wb Ws P bc o p - mu X Wb Ws P bc o)) / 640000

/-- The scale of the normalisation. -/
def sc (o : Fin 64) : ℝ := ga o * (√(vr X Wb Ws P bc o + eps))⁻¹

/-- The normalised convolution, the residual added, cut off at zero. -/
def result (be : EReal) (o : Fin 64) (p : Fin 640000) : EReal :=
  max (((sc X Wb Ws P bc ga o * (conv X Wb Ws P bc o p - mu X Wb Ws P bc o) : ℝ) : EReal) + be + (X o p : EReal)) 0

theorem vr_pos (o : Fin 64) : 0 < vr X Wb Ws P bc o + eps :=
  add_pos_of_nonneg_of_pos (var_nonneg _ _ _ (by norm_num)) eps_pos

theorem sum_ext (f : Fin 4096 → ℝ) : ∑ l, f l = ∑ p, ext f p := by
  have h := sum_corner f fun _ => 1
  simpa only [mul_one] using h

end

/-! ## The kernel's side -/

section
open Cert.KernelIdeal Cert.KernelIdeal.Hand

variable {X : Fin 64 → Fin 640000 → ℝ} {Wb Ws : Fin 64 → Fin 64 → ℝ} {P : Fin 4096 → Fin 64 → ℝ} {bc ga : Fin 64 → ℝ}
  {x : FVec Ideal S64x640000 .f32} {wb ws : FVec Ideal S64x64 .f32} {p : FVec Ideal S4096x64 .f32} {x4 : FVec Ideal S64x200x200x16 .f32}
  {b1 : FVec Ideal S64x1 .f32} {bcv gav : FVec Ideal S64 .f32}

theorem gramS_real (hx : ∀ k q, x (ix2 k q) = (X k q : EReal)) (k : Fin 64) : gramS x (ix2 k 0) = ((∑ q, X k q : ℝ) : EReal) := by
  rw [coe_sum]
  exact Finset.sum_congr rfl fun q _ => hx k q

theorem gramG_real (hx : ∀ k q, x (ix2 k q) = (X k q : EReal)) (i j : Fin 64) : gramG x (ix2 i j) = ((∑ q, X i q * X j q : ℝ) : EReal) := by
  rw [coe_sum]
  exact Finset.sum_congr rfl fun q _ => by rw [EReal.coe_mul, ← hx, ← hx]; rfl

theorem cornB_real (hws : ∀ o k, ws (ix2 o k) = (Ws o k : EReal)) (hp : ∀ l k, p (ix2 l k) = (P l k : EReal)) (o : Fin 64) (l : Fin 4096) :
    cornB p ws (ix2 o l) = (Bc Ws P o l : EReal) := by
  unfold Bc
  rw [coe_sum]
  exact Finset.sum_congr rfl fun k _ => by rw [EReal.coe_mul, ← hws, ← hp]; rfl

theorem corn1_real (hws : ∀ o k, ws (ix2 o k) = (Ws o k : EReal)) (hp : ∀ l k, p (ix2 l k) = (P l k : EReal)) (o : Fin 64) :
    corn1 p ws (ix2 o 0) = ((∑ l, Bc Ws P o l : ℝ) : EReal) := by
  rw [coe_sum]
  exact Finset.sum_congr rfl fun l _ => cornB_real hws hp o l

theorem cornA_real (hwb : ∀ o k, wb (ix2 o k) = (Wb o k : EReal))
    (hx4 : ∀ k (l : Fin 4096), x4 (ix4 k ⟨l.val / 256, by omega⟩ ⟨l.val / 16 % 16, by omega⟩ ⟨l.val % 16, by omega⟩) = (X k (place l) : EReal)) (o : Fin 64) (l : Fin 4096) :
    cornA x4 wb o l = (dens (Wb o) X (place l) : EReal) := by
  unfold dens cornA
  rw [coe_sum]
  exact Finset.sum_congr rfl fun k _ => by rw [EReal.coe_mul, ← hwb, ← hx4]

theorem corn2_real (hwb : ∀ o k, wb (ix2 o k) = (Wb o k : EReal)) (hws : ∀ o k, ws (ix2 o k) = (Ws o k : EReal)) (hp : ∀ l k, p (ix2 l k) = (P l k : EReal))
    (hx4 : ∀ k (l : Fin 4096), x4 (ix4 k ⟨l.val / 256, by omega⟩ ⟨l.val / 16 % 16, by omega⟩ ⟨l.val % 16, by omega⟩) = (X k (place l) : EReal))
    (hb1 : ∀ o, b1 (ix2 o 0) = (bc o : EReal)) (o : Fin 64) :
    corn2 x4 p wb ws b1 (ix2 o 0) = ((∑ l, Bc Ws P o l * (2 * dens (Wb o) X (place l) + 2 * bc o + Bc Ws P o l) : ℝ) : EReal) := by
  rw [coe_sum]
  refine Finset.sum_congr rfl fun l _ => ?_
  rw [EReal.coe_mul, EReal.coe_add, EReal.coe_add, EReal.coe_mul, EReal.coe_mul, ← cornB_real hws hp, ← cornA_real hwb hx4, ← hb1]
  rfl

theorem sumA_real (hx : ∀ k q, x (ix2 k q) = (X k q : EReal)) (hwb : ∀ o k, wb (ix2 o k) = (Wb o k : EReal)) (o : Fin 64) :
    sumA wb (gramS x) (ix1 o) = ((∑ k, Wb o k * ∑ q, X k q : ℝ) : EReal) := by
  rw [sumA_at, coe_sum]
  exact Finset.sum_congr rfl fun k _ => by rw [EReal.coe_mul, ← hwb, ← gramS_real hx]

theorem mean_real (hx : ∀ k q, x (ix2 k q) = (X k q : EReal)) (hwb : ∀ o k, wb (ix2 o k) = (Wb o k : EReal)) (hws : ∀ o k, ws (ix2 o k) = (Ws o k : EReal))
    (hp : ∀ l k, p (ix2 l k) = (P l k : EReal)) (hbc : ∀ o, bcv (ix1 o) = (bc o : EReal)) (o : Fin 64) :
    meanV wb (gramS x) (corn1 p ws) bcv (ix1 o) = (mu X Wb Ws P bc o : EReal) := by
  rw [meanV_at, sumA_real hx hwb, corn1_real hws hp, hbc, ofBits_count, ← EReal.coe_mul, ← EReal.coe_add, ← EReal.coe_add, div_coe _ _ (by norm_num)]
  unfold mu conv
  rw [sum_split _ _ _ _ 640000 card_places, sum_ext]

theorem sq_real (hx : ∀ k q, x (ix2 k q) = (X k q : EReal)) (hwb : ∀ o k, wb (ix2 o k) = (Wb o k : EReal)) (hws : ∀ o k, ws (ix2 o k) = (Ws o k : EReal))
    (hp : ∀ l k, p (ix2 l k) = (P l k : EReal))
    (hx4 : ∀ k (l : Fin 4096), x4 (ix4 k ⟨l.val / 256, by omega⟩ ⟨l.val / 16 % 16, by omega⟩ ⟨l.val % 16, by omega⟩) = (X k (place l) : EReal))
    (hb1 : ∀ o, b1 (ix2 o 0) = (bc o : EReal)) (hbc : ∀ o, bcv (ix1 o) = (bc o : EReal)) (o : Fin 64) :
    sqV wb (gramG x) (gramS x) (corn2 x4 p wb ws b1) bcv (ix1 o)
      = (((∑ q, conv X Wb Ws P bc o q * conv X Wb Ws P bc o q) / 640000 : ℝ) : EReal) := by
  have hg : (∑ j : Fin 64, wb (ix2 o j) * ∑ i : Fin 64, gramG x (ix2 i j) * wb (ix2 o i) : EReal)
      = ((∑ j, Wb o j * ∑ i, (∑ q, X i q * X j q) * Wb o i : ℝ) : EReal) := by
    rw [coe_sum]
    refine Finset.sum_congr rfl fun j _ => ?_
    rw [EReal.coe_mul, hwb, coe_sum]
    refine congrArg _ (Finset.sum_congr rfl fun i _ => ?_)
    rw [EReal.coe_mul, hwb, gramG_real hx]
  rw [sqV_at, hg, sumA_real hx hwb, corn2_real hwb hws hp hx4 hb1, hbc, ofBits_count, ofBits_two]
  simp only [← EReal.coe_mul, ← EReal.coe_add]
  rw [div_coe _ _ (by norm_num)]
  unfold conv
  have h := sum_corner (Bc Ws P o) fun q => 2 * dens (Wb o) X q + 2 * bc o + ext (Bc Ws P o) q
  simp only [ext_place] at h
  rw [sq_split _ _ _ _ 640000 card_places, h]

/-- The scale the kernel makes of the mean and the mean square. -/
theorem scale_real {mean sq : FVec Ideal S64 .f32} (o : Fin 64) (hm : mean (ix1 o) = (mu X Wb Ws P bc o : EReal))
    (hs : sq (ix1 o) = (((∑ q, conv X Wb Ws P bc o q * conv X Wb Ws P bc o q) / 640000 : ℝ) : EReal)) (hga : gav (ix1 o) = (ga o : EReal)) :
    scaleV mean sq gav (ix1 o) = (sc X Wb Ws P bc ga o : EReal) := by
  rw [scaleV_at, hm, hs, hga, ofBits_eps, ← EReal.coe_mul, ← EReal.coe_sub, ← EReal.coe_add,
    var_split (conv X Wb Ws P bc o) 640000 (mu X Wb Ws P bc o) card_places (by norm_num) rfl]
  refine (congrArg (fun u : EReal => (ga o : EReal) * u) (rsqrt_coe _ (vr_pos X Wb Ws P bc o))).trans ?_
  rw [← EReal.coe_mul]
  rfl

/-- The affine map of the output pass. -/
theorem outY_real {s mean be : FVec Ideal S64 .f32} (hx : ∀ k q, x (ix2 k q) = (X k q : EReal)) (hwb : ∀ o k, wb (ix2 o k) = (Wb o k : EReal))
    (hbc : ∀ o, bcv (ix1 o) = (bc o : EReal)) (o : Fin 64) (q : Fin 640000) (r u : ℝ) (hs : s (ix1 o) = (r : EReal)) (hm : mean (ix1 o) = (u : EReal)) :
    outY x (matV s wb) (shiftV s mean bcv be) o q = ((r * (dens (Wb o) X q + bc o - u) + X o q : ℝ) : EReal) + be (ix1 o) := by
  have hk : ∀ k : Fin 64, matV s wb (ix2 o k) * x (ix2 k q) = (((r * Wb o k + if o = k then 1 else 0) * X k q : ℝ) : EReal) := fun k => by
    rw [matV_at, hs, hwb, hx]
    by_cases h : o = k
    · rw [if_pos h, if_pos h, EReal.coe_mul, EReal.coe_add, EReal.coe_mul, EReal.coe_one]
    · rw [if_neg h, if_neg h, EReal.coe_mul, EReal.coe_add, EReal.coe_mul, EReal.coe_zero]
  have hsum : (∑ k : Fin 64, (r * Wb o k + if o = k then 1 else 0) * X k q : ℝ) = r * dens (Wb o) X q + X o q := by
    unfold dens
    simp only [add_mul, Finset.sum_add_distrib, ite_mul, one_mul, zero_mul, Finset.sum_ite_eq, Finset.mem_univ, if_true, Finset.mul_sum, mul_assoc]
  unfold outY
  rw [Finset.sum_congr rfl fun k _ => hk k, ← coe_sum, hsum, shiftV_at, hs, hm, hbc, ← EReal.coe_sub, ← EReal.coe_mul, ← add_assoc, ← EReal.coe_add]
  congr 2
  ring

/-- The output pass. -/
theorem out_real {s mean be : FVec Ideal S64 .f32} (hx : ∀ k q, x (ix2 k q) = (X k q : EReal)) (hwb : ∀ o k, wb (ix2 o k) = (Wb o k : EReal))
    (hws : ∀ o k, ws (ix2 o k) = (Ws o k : EReal)) (hp : ∀ l k, p (ix2 l k) = (P l k : EReal)) (hbc : ∀ o, bcv (ix1 o) = (bc o : EReal)) (o : Fin 64) (q : Fin 640000)
    (hs : s (ix1 o) = (sc X Wb Ws P bc ga o : EReal)) (hm : mean (ix1 o) = (mu X Wb Ws P bc o : EReal)) :
    outP x (matV s wb) (shiftV s mean bcv be) (cornV s (cornB p ws)) (ix2 o q) = result X Wb Ws P bc ga (be (ix1 o)) o q := by
  have hq := q.isLt
  have hy := outY_real (be := be) hx hwb hbc o q _ _ hs hm
  unfold result
  by_cases h : q.val % 3200 < 256
  · refine (outP_lo x _ _ _ (ix2 o q) (q.val / 3200) ⟨q.val % 3200, h⟩ (by show q.val = q.val / 3200 * 3200 + q.val % 3200; omega)).trans ?_
    refine congrArg (fun u : EReal => max u 0) ?_
    show outY x (matV s wb) (shiftV s mean bcv be) o q
      + cornV s (cornB p ws) (ix3 ⟨min (q.val / 3200) 15, by omega⟩ o ⟨q.val % 3200, h⟩) * (if q.val / 3200 < 16 then 1 else 0) = _
    rw [hy, cornV_at, hs, cornB_real hws hp, ← EReal.coe_mul]
    by_cases ht : q.val / 3200 < 16
    · have hcell : (⟨min (q.val / 3200) 15 * 256 + q.val % 3200, by omega⟩ : Fin 4096) = cell q :=
        Fin.ext (by show min (q.val / 3200) 15 * 256 + q.val % 3200 = q.val / 3200 % 16 * 256 + q.val % 3200 % 256; omega)
      rw [if_pos ht, mul_one]
      refine middle _ _ _ _ _ ?_
      have hext : ext (Bc Ws P o) q = Bc Ws P o (cell q) := by unfold ext; rw [if_pos ⟨ht, h⟩]
      show _ + sc X Wb Ws P bc ga o * Bc Ws P o ⟨min (q.val / 3200) 15 * 256 + q.val % 3200, _⟩ = _
      rw [hcell]
      unfold conv
      rw [hext]
      ring
    · rw [if_neg ht, mul_zero]
      refine middle _ 0 _ _ _ ?_
      have hext : ext (Bc Ws P o) q = 0 := by unfold ext; rw [if_neg fun h' => ht h'.1]
      unfold conv
      rw [hext]
      ring
  · refine (outP_hi x _ _ _ (ix2 o q) h).trans ?_
    refine congrArg (fun u : EReal => max u 0) ?_
    refine hy.trans ((add_zero _).symm.trans ?_)
    refine middle _ 0 _ _ _ ?_
    have hext : ext (Bc Ws P o) q = 0 := by unfold ext; rw [if_neg fun h' => h h'.2]
    unfold conv
    rw [hext]
    ring

end

/-! ## The reference's side -/

section
open Cert.ReferenceIdeal Cert.ReferenceIdeal.Hand

variable {X : Fin 64 → Fin 640000 → ℝ} {Wb Ws : Fin 64 → Fin 64 → ℝ} {P : Fin 4096 → Fin 64 → ℝ} {bc ga : Fin 64 → ℝ}
  {y bev : FVec Ideal S1x64x200x200x16 .f32} {gav be : FVec Ideal S64 .f32}

theorem ref_mean (hy : ∀ o q, y (pos o q) = (Eqn.conv X Wb Ws P bc o q : EReal)) (o : Fin 64) :
    mean y (ix5 0 o 0 0 0) = (mu X Wb Ws P bc o : EReal) := by
  rw [mean_at, total_at, ofBits_count, Finset.sum_congr rfl fun q _ => hy o q, ← coe_sum, div_coe _ _ (by norm_num)]
  rfl

theorem ref_var (hy : ∀ o q, y (pos o q) = (Eqn.conv X Wb Ws P bc o q : EReal)) (o : Fin 64) :
    var y (ix5 0 o 0 0 0) = (vr X Wb Ws P bc o : EReal) := by
  have hd : ∀ q, dev y (pos o q) = (((Eqn.conv X Wb Ws P bc o q - mu X Wb Ws P bc o) * (Eqn.conv X Wb Ws P bc o q - mu X Wb Ws P bc o) : ℝ) : EReal) := fun q => by
    refine (dev_at y o _ _ _).trans ?_
    rw [ref_mean hy, show y (ix5 0 o _ _ _) = _ from hy o q, ← EReal.coe_sub, ← EReal.coe_mul]
  rw [var_at, total_at, ofBits_count, Finset.sum_congr rfl fun q _ => hd q, ← coe_sum, div_coe _ _ (by norm_num)]
  rfl

theorem ref_real (hy : ∀ o q, y (pos o q) = (Eqn.conv X Wb Ws P bc o q : EReal)) (hx : ∀ o q, bev (pos o q) = (X o q : EReal))
    (hga : ∀ o, gav (ix1 o) = (ga o : EReal)) (o : Fin 64) (q : Fin 640000) :
    out y bev gav be (pos o q) = result X Wb Ws P bc ga (be (ix1 o)) o q := by
  have hpos := vr_pos X Wb Ws P bc o
  have hr : √(vr X Wb Ws P bc o + eps) ≠ 0 := (Real.sqrt_pos.mpr hpos).ne'
  refine (out_at y bev gav be o _ _ _).trans ?_
  rw [ref_mean hy, ref_var hy, show y (ix5 0 o _ _ _) = _ from hy o q, show bev (ix5 0 o _ _ _) = _ from hx o q, hga, ofBits_eps, ← EReal.coe_sub, ← EReal.coe_add,
    sqrt_coe _ hpos, div_coe _ _ hr, ← EReal.coe_mul]
  unfold result
  refine congrArg (fun u : ℝ => max ((u : EReal) + be (ix1 o) + (X o q : EReal)) 0) ?_
  unfold sc
  rw [div_eq_mul_inv]
  ring

end

end Cert.Eqn

end
-- ==== Proof.Grid.lean ====
/- The reference's grid and its convolution at a place, over the corner's cells. -/
module

public import proofs.«01_k».proof.Proof.RefB
public import proofs.«01_k».proof.Proof.HostA
public import proofs.«01_k».proof.Proof.Equal

@[expose] public section

set_option maxRecDepth 16384

noncomputable section

namespace Cert.Eqn

open Cert.ReferenceIdeal Cert.ReferenceIdeal.Hand
open Idealize.ShloMosaic
open Idealize.ShloMosaic.LaneScatter
open Cert.KernelIdeal.Hand (cellWord lastHit_congr lastHit_none)

theorem cellWord_toNat (co : IVec S40000x3 32) (hco : ∀ n q, (co (ix2 n q)).toNat < 16) (n : Fin 40000) :
    (cellWord co n).toNat = (co (ix2 n 1)).toNat * 256 + (co (ix2 n 0)).toNat * 16 + (co (ix2 n 2)).toNat := by
  have h0 := hco n 0
  have h1 := hco n 1
  have h2 := hco n 2
  unfold cellWord
  rw [BitVec.toNat_add, BitVec.toNat_add, BitVec.toNat_mul, BitVec.toNat_mul, show (256#32 : BitVec 32).toNat = 256 from rfl, show (16#32 : BitVec 32).toNat = 16 from rfl]
  omega

/-- A point names a place of the corner exactly when its cell number is the place's. -/
theorem names_iff (co : IVec S40000x3 32) (hco : ∀ n q, (co (ix2 n q)).toNat < 16) (p : Fin 640000) (hp : inCorner p) (n : ℕ) :
    names co (p.val / 16 % 200) (p.val / 3200) (p.val % 16) n ↔ BitVec.ofNat 32 (cell p).val = cellWord co ⟨n % 40000, by omega⟩ := by
  obtain ⟨hp1, hp2⟩ := hp
  have hw := cellWord_toNat co hco ⟨n % 40000, by omega⟩
  have h0 := hco ⟨n % 40000, by omega⟩ 0
  have h1 := hco ⟨n % 40000, by omega⟩ 1
  have h2 := hco ⟨n % 40000, by omega⟩ 2
  have hc : (BitVec.ofNat 32 (cell p).val).toNat = p.val / 3200 % 16 * 256 + p.val % 3200 % 256 := by
    rw [BitVec.toNat_ofNat]
    show (p.val / 3200 % 16 * 256 + p.val % 3200 % 256) % 2 ^ 32 = _
    omega
  unfold names
  rw [← BitVec.toNat_inj, hc, hw]
  omega

/-- Off the corner no point names a place. -/
theorem names_not (co : IVec S40000x3 32) (hco : ∀ n q, (co (ix2 n q)).toNat < 16) (p : Fin 640000) (hp : ¬ inCorner p) (n : ℕ) :
    ¬ names co (p.val / 16 % 200) (p.val / 3200) (p.val % 16) n := by
  have h0 := hco ⟨n % 40000, by omega⟩ 0
  have h1 := hco ⟨n % 40000, by omega⟩ 1
  rintro ⟨e0, e1, -⟩
  refine hp ⟨?_, ?_⟩ <;> omega

/-- The grid at a place of channel `k`: the corner's features there, zero elsewhere. -/
theorem vox_cell (co : IVec S40000x3 32) (hco : ∀ n q, (co (ix2 n q)).toNat < 16) (f : FVec Ideal S40000x64 .f32) (P : Fin 4096 → Fin 64 → ℝ)
    (hP : ∀ l k, lastHit (fun n => BitVec.ofNat 32 l.val = cellWord co ⟨n % 40000, by omega⟩) (fun n => (f (ix2 ⟨n % 40000, by omega⟩ k) : EReal)) (0 : EReal) 40000 = (P l k : EReal))
    (p : Fin 640000) (k : Fin 64) :
    vox co f (ix4 ⟨p.val / 16 % 200, by omega⟩ ⟨p.val / 3200, by omega⟩ ⟨p.val % 16, by omega⟩ k) = ((if inCorner p then P (cell p) k else 0 : ℝ) : EReal) := by
  rw [vox_at co hco]
  by_cases h : inCorner p
  · rw [if_pos h, ← hP]
    exact lastHit_congr 40000 (fun n _ => names_iff co hco p h n) fun _ _ => rfl
  · rw [if_neg h, EReal.coe_zero]
    exact lastHit_none 40000 fun n _ => names_not co hco p h n

variable {X : Fin 64 → Fin 640000 → ℝ} {Wb Ws : Fin 64 → Fin 64 → ℝ} {P : Fin 4096 → Fin 64 → ℝ} {bc : Fin 64 → ℝ}

/-- The reference's convolution at a place. -/
theorem ref_conv {wc : FVec Ideal S64x128 .f32} {bev : FVec Ideal S1x64x200x200x16 .f32} {g : FVec Ideal S200x200x16x64 .f32} {bcv : FVec Ideal S64 .f32}
    (hwb : ∀ o k : Fin 64, wc (ix2 o ⟨k.val, by omega⟩) = (Wb o k : EReal)) (hws : ∀ o k : Fin 64, wc (ix2 o ⟨64 + k.val, by omega⟩) = (Ws o k : EReal))
    (hx : ∀ o q, bev (pos o q) = (X o q : EReal))
    (hg : ∀ (q : Fin 640000) (k : Fin 64), g (ix4 ⟨q.val / 16 % 200, by omega⟩ ⟨q.val / 3200, by omega⟩ ⟨q.val % 16, by omega⟩ k)
      = ((if inCorner q then P (cell q) k else 0 : ℝ) : EReal))
    (hbc : ∀ o, bcv (ix1 o) = (bc o : EReal)) (o : Fin 64) (q : Fin 640000) :
    Hand.conv wc (both bev g) bcv (pos o q) = (Eqn.conv X Wb Ws P bc o q : EReal) := by
  have hext : (∑ k : Fin 64, Ws o k * (if inCorner q then P (cell q) k else 0) : ℝ) = ext (Bc Ws P o) q := by
    unfold ext Bc
    by_cases h : inCorner q
    · simp only [if_pos h]
    · simp only [if_neg h, mul_zero, Finset.sum_const_zero]
  refine (conv_at wc (both bev g) bcv o _ _ _).trans ?_
  refine (congrArg (fun u : EReal => u + bcv (ix1 o)) (Fin.sum_univ_add (a := 64) (b := 64) fun k : Fin 128 =>
    (wc (ix2 o k) * both bev g (ix5 0 k ⟨q.val / 3200, by omega⟩ ⟨q.val / 16 % 200, by omega⟩ ⟨q.val % 16, by omega⟩) : EReal))).trans ?_
  have h1 : ∀ k : Fin 64, (wc (ix2 o (Fin.castAdd 64 k)) * both bev g (ix5 0 (Fin.castAdd 64 k) ⟨q.val / 3200, by omega⟩ ⟨q.val / 16 % 200, by omega⟩ ⟨q.val % 16, by omega⟩) : EReal)
      = ((Wb o k * X k q : ℝ) : EReal) := fun k => by
    rw [EReal.coe_mul, ← hwb, ← hx]
    exact congrArg (fun u : EReal => wc (ix2 o ⟨k.val, by omega⟩) * u) (both_lo bev g k _ _ _)
  have h2 : ∀ k : Fin 64, (wc (ix2 o (Fin.natAdd 64 k)) * both bev g (ix5 0 (Fin.natAdd 64 k) ⟨q.val / 3200, by omega⟩ ⟨q.val / 16 % 200, by omega⟩ ⟨q.val % 16, by omega⟩) : EReal)
      = ((Ws o k * (if inCorner q then P (cell q) k else 0) : ℝ) : EReal) := fun k => by
    rw [EReal.coe_mul, ← hws, ← hg]
    exact congrArg (fun u : EReal => wc (ix2 o ⟨64 + k.val, by omega⟩) * u) (both_hi bev g k _ _ _)
  rw [Finset.sum_congr rfl fun k _ => h1 k, Finset.sum_congr rfl fun k _ => h2 k, hbc, ← coe_sum, ← coe_sum, hext, ← EReal.coe_add, ← EReal.coe_add]
  rfl

end Cert.Eqn

end
-- ==== Proof.PreA.lean ====
/- What the precondition says of the arguments: every entry of the float arguments but the last is a real number, and every coordinate is
   below sixteen. -/
module

public import proofs.«01_k».proof.Pre_inputs_ok
public import Idealize.ShloMosaic.Lib.ReduceAll
public import Idealize.ShloMosaic.Lib.Affine
public import Idealize.ShloMosaic.Lib.IdealHost
public import Idealize.ShloMosaic.Lib.Pipeline.ValueKit

@[expose] public section

set_option maxRecDepth 16384

noncomputable section

namespace Cert.Pre_inputs_ok.Hand

open Cert.Pre_inputs_ok
open Idealize.ShloMosaic

theorem facts : Facts where
  bcast_S_S1x64x200x200x16 := by decide
  reducesTo_S1x64x200x200x16_S_d0_1_2_3_4 := by decide
  h_S_ := by decide
  bcast_S_S40000x68 := by decide
  reducesTo_S40000x68_S_d0_1 := by decide
  bcast_S_S68x64 := by decide
  reducesTo_S68x64_S_d0_1 := by decide
  bcast_S_S64 := by decide
  reducesTo_S64_S_d0 := by decide
  bcast_S_S64x64 := by decide
  reducesTo_S64x64_S_d0_1 := by decide
  bcast_S_S64x128 := by decide
  reducesTo_S64x128_S_d0_1 := by decide
  bcast_S_S40000x3 := by decide
  reducesTo_S40000x3_S_d0_1 := by decide

instance : Subsingleton S_.Idx := ⟨fun a b => funext fun k => k.elim0⟩

theorem ofBits_top : Ideal.ofBits .f32 0x7F800000#32 = (⊤ : EReal) := by
  simp [Ideal.ofBits, Ideal.ieee]

/-- An extended real whose absolute value is below the top is real. -/
theorem real_of_abs (a : EReal) (h : Ideal.cmp .olt (max a (-a)) (Ideal.ofBits .f32 0x7F800000#32) = 1#1) : ∃ r : ℝ, a = (r : EReal) := by
  rw [ofBits_top] at h
  have hlt : max a (-a) < ⊤ := by
    by_contra hn
    have : Ideal.cmp .olt (max a (-a)) ⊤ = 0#1 := by
      unfold Ideal.cmp
      simp only [hn, decide_false]
      rfl
    rw [this] at h
    exact absurd h (by decide)
  induction a using EReal.rec with
  | bot => simp at hlt
  | coe r => exact ⟨r, rfl⟩
  | top => simp at hlt

/-- An array all of whose entries have their absolute value below the top is an array of reals. -/
theorem reals {s : Shape} {axes : List (Fin s.rank)} (a : FVec Ideal s .f32) (hb : S_.BroadcastsInDim s (![] : Fin 0 → Fin s.rank)) (hr : s.ReducesTo axes S_) (hu : 0 < S_.numel)
    (h : Host.reduce IntOp.andi (cmpf .olt (Host.absf a) (broadcastInDim s ![] hb (constant S_ .f32 0x7F800000#32))) (constantI S_ 1 1#1) hr hu ix0 = 1#1) :
    ∀ i, ∃ r : ℝ, a i = (r : EReal) := fun i =>
  real_of_abs (a i) (Host.reduce_andi_all _ _ hr hu ix0 h i)

theorem small_of (w : BitVec 32) (h : IntOp.andi (IntOp.cmpi .sge w 0#32) (IntOp.cmpi .slt w 16#32) = 1#1) : w.toNat < 16 := by
  obtain ⟨h1, h2⟩ := IntOp.andi_eq_one.mp h
  have e1 := IntOp.cmpi_sge.mp h1
  have e2 := IntOp.cmpi_slt.mp h2
  have z0 : (0#32 : BitVec 32).toInt = 0 := by decide
  have z16 : (16#32 : BitVec 32).toInt = 16 := by decide
  rw [z0] at e1
  rw [z16] at e2
  have hw : 2 * w.toNat < 2 ^ 32 := BitVec.toInt_pos_iff.mp e1
  rw [BitVec.toInt_eq_toNat_of_lt hw] at e2
  omega

theorem reads [Facts] (a0 : FVec Ideal S1x64x200x200x16 .f32) (a1 : FVec Ideal S40000x68 .f32) (a2 : IVec S40000x3 32) (a3 : FVec Ideal S68x64 .f32)
    (a4 : FVec Ideal S64 .f32) (a5 : FVec Ideal S64x64 .f32) (a6 : FVec Ideal S64 .f32) (a7 : FVec Ideal S64x128 .f32) (a8 a9 a10 : FVec Ideal S64 .f32)
    (h : fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, (a2 i).toNat < 16) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ ∀ i, ∃ r : ℝ, a9 i = (r : EReal) := by
  have h0 := congrFun h ix0
  dsimp only [fn, fn_part1, fn_part2] at h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e1⟩ := IntOp.andi_eq_one.mp h0
  obtain ⟨e2, e0⟩ := IntOp.andi_eq_one.mp h0
  exact ⟨reals a0 _ _ _ e0, reals a1 _ _ _ e1, fun i => small_of (a2 i) (Host.reduce_andi_all _ _ _ _ ix0 e2 i), reals a3 _ _ _ e3, reals a4 _ _ _ e4,
    reals a5 _ _ _ e5, reals a6 _ _ _ e6, reals a7 _ _ _ e7, reals a8 _ _ _ e8, reals a9 _ _ _ e9⟩

end Cert.Pre_inputs_ok.Hand

end
-- ==== Proof.Same.lean ====
/- Both programs leave the same result on arguments the precondition admits. -/
module

public import proofs.«01_k».proof.Proof.LinkB
public import proofs.«01_k».proof.Proof.Grid
public import proofs.«01_k».proof.Proof.PreA

@[expose] public section

set_option maxRecDepth 16384

noncomputable section

namespace Cert.Eqn

open Idealize.ShloMosaic Idealize.ShloMosaic.TcCoe Idealize.SL.Sem
open Idealize.ShloMosaic.LaneScatter
open Cert.KernelIdeal Cert.KernelIdeal.Hand

/-- The last of a list of reals is real. -/
theorem lastHit_real (p : ℕ → Prop) [DecidablePred p] (u : ℕ → EReal) (hu : ∀ n, ∃ r : ℝ, u n = (r : EReal)) : ∀ n, ∃ r : ℝ, lastHit p u (0 : EReal) n = (r : EReal)
  | 0 => ⟨0, rfl⟩
  | n + 1 => by
    show ∃ r : ℝ, (if p n then u n else lastHit p u (0 : EReal) n) = (r : EReal)
    by_cases h : p n
    · rw [if_pos h]; exact hu n
    · rw [if_neg h]; exact lastHit_real p u hu n

/-- The features of real arguments are real. -/
theorem featAt_real (p : FVec Ideal S40000x68 .f32) (w1 : FVec Ideal S68x64 .f32) (b1 : FVec Ideal S64 .f32) (w2 : FVec Ideal S64x64 .f32) (b2 : FVec Ideal S64 .f32)
    (hp : ∀ i, ∃ r : ℝ, p i = (r : EReal)) (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) (n : Fin 40000) (k : Fin 64) :
    ∃ r : ℝ, featAt p w1 b1 w2 b2 n k = (r : EReal) := by
  choose P hP using hp
  choose W1 hW1 using hw1
  choose B1 hB1 using hb1
  choose W2 hW2 using hw2
  choose B2 hB2 using hb2
  refine ⟨max (∑ j : Fin 64, max (∑ i : Fin 68, P (ix2 n i) * W1 (ix2 i j) + B1 (ix1 j)) 0 * W2 (ix2 j k) + B2 (ix1 k)) 0, ?_⟩
  unfold featAt
  simp only [hP, hW1, hB1, hW2, hB2, coe_max, coe_sum, EReal.coe_add, EReal.coe_mul, EReal.coe_zero]

theorem agree (m : (ℓ : Loc nD τ sig) → Buf (Elt Ideal) ℓ) (ρ : Dev nD → PrngReg) (c : Dev nD)
    (a0 : FVec Ideal S1x64x200x200x16 .f32) (a1 : FVec Ideal S40000x68 .f32) (a2 : IVec S40000x3 32) (a3 : FVec Ideal S68x64 .f32)
    (a4 : FVec Ideal S64 .f32) (a5 : FVec Ideal S64x64 .f32) (a6 : FVec Ideal S64 .f32) (a7 : FVec Ideal S64x128 .f32) (a8 a9 a10 : FVec Ideal S64 .f32)
    (h0 : ∀ i, ∃ r : ℝ, a0 i = (r : EReal)) (h1 : ∀ i, ∃ r : ℝ, a1 i = (r : EReal)) (h2 : ∀ i, (a2 i).toNat < 16) (h3 : ∀ i, ∃ r : ℝ, a3 i = (r : EReal))
    (h4 : ∀ i, ∃ r : ℝ, a4 i = (r : EReal)) (h5 : ∀ i, ∃ r : ℝ, a5 i = (r : EReal)) (h6 : ∀ i, ∃ r : ℝ, a6 i = (r : EReal))
    (h7 : ∀ i, ∃ r : ℝ, a7 i = (r : EReal)) (h8 : ∀ i, ∃ r : ℝ, a8 i = (r : EReal)) (h9 : ∀ i, ∃ r : ℝ, a9 i = (r : EReal))
    (k0 : m ((c.tc : Thread nD τ).loc main_arg0) = a0) (k1 : m ((c.tc : Thread nD τ).loc main_arg1) = a1) (k2 : m ((c.tc : Thread nD τ).loc main_arg2) = a2)
    (k3 : m ((c.tc : Thread nD τ).loc main_arg3) = a3) (k4 : m ((c.tc : Thread nD τ).loc main_arg4) = a4) (k5 : m ((c.tc : Thread nD τ).loc main_arg5) = a5)
    (k6 : m ((c.tc : Thread nD τ).loc main_arg6) = a6) (k7 : m ((c.tc : Thread nD τ).loc main_arg7) = a7) (k8 : m ((c.tc : Thread nD τ).loc main_arg8) = a8)
    (k9 : m ((c.tc : Thread nD τ).loc main_arg9) = a9) (k10 : m ((c.tc : Thread nD τ).loc main_arg10) = a10) :
    (W12 m ρ c (Proc.devRef .tc main_v87) : FVec Ideal S1x64x200x200x16 .f32)
      = Cert.ReferenceIdeal.Hand.out (Cert.ReferenceIdeal.Hand.conv a7 (Cert.ReferenceIdeal.Hand.both a0 (Cert.ReferenceIdeal.Hand.vox a2
          (Cert.ReferenceIdeal.Hand.feats a1 a3 a4 a5 a6))) a8) a0 a9 a10 := by
  have hfeat := featAt_real a1 a3 a4 a5 a6 h1 h3 h4 h5 h6
  have hP : ∀ (l : Fin 4096) (k : Fin 64), ∃ r : ℝ, lastHit (fun n => BitVec.ofNat 32 l.val = cellWord a2 ⟨n % 40000, by omega⟩)
      (fun n => featAt a1 a3 a4 a5 a6 ⟨n % 40000, by omega⟩ k) (0 : EReal) 40000 = (r : EReal) :=
    fun l k => lastHit_real _ _ (fun n => hfeat _ _) 40000
  choose P hP using hP
  choose A0 h0 using h0
  choose A7 h7 using h7
  choose A8 h8 using h8
  choose A9 h9 using h9
  have hx : ∀ (k : Fin 64) (q : Fin 640000), (W7 m ρ c (Proc.devRef .tc main_v34) : FVec Ideal S64x640000 .f32) (ix2 k q)
      = ((A0 (Cert.ReferenceIdeal.Hand.pos k q) : ℝ) : EReal) := fun k q => by
    refine (x_at m ρ c k q).trans ?_
    rw [k0]
    exact h0 _
  have hwb : ∀ o k : Fin 64, (W7 m ρ c (Proc.devRef .tc main_v0) : FVec Ideal S64x64 .f32) (ix2 o k) = ((A7 (ix2 o ⟨k.val, by omega⟩) : ℝ) : EReal) := fun o k => by
    refine (wb_at m ρ c o k).trans ?_
    rw [k7]
    exact h7 _
  have hws : ∀ o k : Fin 64, (W7 m ρ c (Proc.devRef .tc main_v1) : FVec Ideal S64x64 .f32) (ix2 o k) = ((A7 (ix2 o ⟨64 + k.val, by omega⟩) : ℝ) : EReal) := fun o k => by
    refine (ws_at m ρ c o k).trans ?_
    rw [k7]
    exact h7 _
  have hp : ∀ (l : Fin 4096) (k : Fin 64), (W7 m ρ c (Proc.devRef .tc main_v32) : FVec Ideal S4096x64 .f32) (ix2 l k) = ((P l k : ℝ) : EReal) := fun l k => by
    refine (corner_at m ρ c l k).trans ?_
    rw [k1, k2, k3, k4, k5, k6]
    exact hP l k
  have hx4 : ∀ (k : Fin 64) (l : Fin 4096), (W7 m ρ c (Proc.devRef .tc main_v33) : FVec Ideal S64x200x200x16 .f32)
      (ix4 k ⟨l.val / 256, by omega⟩ ⟨l.val / 16 % 16, by omega⟩ ⟨l.val % 16, by omega⟩) = ((A0 (Cert.ReferenceIdeal.Hand.pos k (place l)) : ℝ) : EReal) := fun k l => by
    have hl := l.isLt
    refine (x4_at m ρ c k _ _ _).trans ?_
    rw [k0, ← h0]
    refine congrArg a0 (funext fun a => Fin.ext ?_)
    match a with
    | ⟨0, _⟩ => rfl
    | ⟨1, _⟩ => rfl
    | ⟨2, _⟩ => show l.val / 256 = (l.val / 256 * 3200 + l.val % 256) / 3200; omega
    | ⟨3, _⟩ => show l.val / 16 % 16 = (l.val / 256 * 3200 + l.val % 256) / 16 % 200; omega
    | ⟨4, _⟩ => show l.val % 16 = (l.val / 256 * 3200 + l.val % 256) % 16; omega
  have hb1 : ∀ o : Fin 64, (W7 m ρ c (Proc.devRef .tc main_v35) : FVec Ideal S64x1 .f32) (ix2 o 0) = ((A8 (ix1 o) : ℝ) : EReal) := fun o => by
    refine (bias_at m ρ c o).trans ?_
    rw [k8]
    exact h8 _
  have hmean : ∀ o : Fin 64, kMean m ρ c (ix1 o) = (mu (fun k q => A0 (Cert.ReferenceIdeal.Hand.pos k q)) (fun o k => A7 (ix2 o ⟨k.val, by omega⟩))
      (fun o k => A7 (ix2 o ⟨64 + k.val, by omega⟩)) P (fun o => A8 (ix1 o)) o : EReal) := fun o => by
    unfold kMean
    rw [k8]
    exact mean_real hx hwb hws hp (fun o => h8 _) o
  have hscale : ∀ o : Fin 64, kScale m ρ c (ix1 o) = (sc (fun k q => A0 (Cert.ReferenceIdeal.Hand.pos k q)) (fun o k => A7 (ix2 o ⟨k.val, by omega⟩))
      (fun o k => A7 (ix2 o ⟨64 + k.val, by omega⟩)) P (fun o => A8 (ix1 o)) (fun o => A9 (ix1 o)) o : EReal) := fun o => by
    unfold kScale
    rw [k9]
    refine scale_real o (hmean o) ?_ (h9 _)
    unfold kSq
    rw [k8]
    exact sq_real hx hwb hws hp hx4 hb1 (fun o => h8 _) o
  funext i
  obtain ⟨q, hq⟩ : ∃ q, Cert.ReferenceIdeal.Hand.pos (i 1) q = i :=
    (Cert.ReferenceIdeal.Hand.pos_fiber Cert.ReferenceIdeal.Hand.reduces (i 1) i).mp (funext fun b => match b with | ⟨0, _⟩ => Fin.ext rfl)
  rw [← hq]
  refine Eq.trans (b := result (fun k q => A0 (Cert.ReferenceIdeal.Hand.pos k q)) (fun o k => A7 (ix2 o ⟨k.val, by omega⟩))
      (fun o k => A7 (ix2 o ⟨64 + k.val, by omega⟩)) P (fun o => A8 (ix1 o)) (fun o => A9 (ix1 o)) (a10 (ix1 (i 1))) (i 1) q) ?_ (Eq.symm ?_)
  · refine (v87_at m ρ c (i 1) q).trans ?_
    rw [v86_eq, k8, k10]
    exact out_real hx hwb hws hp (fun o => h8 _) (i 1) q (hscale (i 1)) (hmean (i 1))
  · refine ref_real (fun o q => ?_) (fun o q => h0 _) (fun o => h9 _) (i 1) q
    refine ref_conv (fun o k => h7 _) (fun o k => h7 _) (fun o q => h0 _) (fun q k => ?_) (fun o => h8 _) o q
    refine vox_cell a2 (fun n q => h2 _) _ P (fun l k => ?_) q k
    refine Eq.trans ?_ (hP l k)
    exact lastHit_congr 40000 (fun _ _ => Iff.rfl) fun n _ => Cert.ReferenceIdeal.Hand.feats_at a1 a3 a4 a5 a6 _ k

end Cert.Eqn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem

/-- Both programs run, on arguments the precondition admits, to the same result. -/
theorem algebraic : Cert.algebraic_KernelIdeal_ReferenceIdeal_pre_inputs_ok (hKernelIdeal := Cert.KernelIdeal.Gen.facts)
    (hReferenceIdeal := Cert.ReferenceIdeal.Gen.facts) (hPre_inputs_ok := Cert.Pre_inputs_ok.Hand.facts) := by
  intro m g m' g' hpre hargs
  haveI := Cert.Pre_inputs_ok.Hand.facts
  refine ⟨fun c => Cert.KernelIdeal.Hand.W12 m g c (Proc.devRef .tc Cert.KernelIdeal.main_v87), ?_, ?_⟩
  · refine (θ_run _ _ _).mono (fun r h c => ?_) (Cert.KernelIdeal.Hand.run m g)
    obtain ⟨h0, h1, h2, h3, h4, h5, h6, h7, h8, h9, h10, hv⟩ := h.1 c
    exact ⟨hv, h0, h1, h2, h3, h4, h5, h6, h7, h8, h9, h10⟩
  · refine (θ_run _ _ _).mono (fun r h c => ⟨(h c).1.trans ?_, (h c).2⟩) (Cert.ReferenceIdeal.Value.run m' g')
    obtain ⟨e0, e1, e2, e3, e4, e5, e6, e7, e8, e9, e10⟩ := hargs c
    obtain ⟨p0, p1, p2, p3, p4, p5, p6, p7, p8, p9⟩ := Cert.Pre_inputs_ok.Hand.reads _ _ _ _ _ _ _ _ _ _ _ (hpre c)
    refine (Cert.ReferenceIdeal.Hand.res_eq m' c).trans ?_
    unfold Cert.ReferenceIdeal.Hand.convOf
    rw [e0, e1, e2, e3, e4, e5, e6, e7, e8, e9, e10]
    exact (Cert.Eqn.agree m g c _ _ _ _ _ _ _ _ _ _ _ p0 p1 p2 p3 p4 p5 p6 p7 p8 p9 rfl rfl rfl rfl rfl rfl rfl rfl rfl rfl rfl).symm

theorem claim : Cert.Claim :=
  ⟨Cert.Kernel.Gen.facts, Cert.KernelIdeal.Gen.facts, Cert.ReferenceIdeal.Gen.facts, Cert.Pre_inputs_ok.Hand.facts,
    Cert.KernelIdeal.Hand.quiescent_words.mpr (Cert.KernelIdeal.Hand.quiet Bits),
    Cert.KernelIdeal.Hand.quiet Ideal,
    fun m g _ => Cert.KernelIdeal.Hand.quiet Ideal m g trivial,
    fun m g _ => Cert.ReferenceIdeal.Hand.quiet m g,
    fun m g _ => Cert.ReferenceIdeal.Hand.quiet m g,
    trivial,
    algebraic⟩

end Cert.Proof

end
